-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x261888x2 : Shape := ⟨3, ![4, 261888, 2]⟩
abbrev S4x261888x4 : Shape := ⟨3, ![4, 261888, 4]⟩
abbrev S4x261888x1 : Shape := ⟨3, ![4, 261888, 1]⟩
abbrev S4x261888 : Shape := ⟨2, ![4, 261888]⟩
abbrev S16x65472 : Shape := ⟨2, ![16, 65472]⟩
abbrev S16x6000 : Shape := ⟨2, ![16, 6000]⟩
abbrev S16 : Shape := ⟨1, ![16]⟩
abbrev S_ : Shape := ⟨0, ![]⟩
abbrev S16x1 : Shape := ⟨2, ![16, 1]⟩
abbrev S4x24000 : Shape := ⟨2, ![4, 24000]⟩
abbrev S4x6000 : Shape := ⟨2, ![4, 6000]⟩
abbrev S4x6000x1 : Shape := ⟨3, ![4, 6000, 1]⟩
abbrev S1 : Shape := ⟨1, ![1]⟩
abbrev S1x1x1 : Shape := ⟨3, ![1, 1, 1]⟩
abbrev S4x6000x4 : Shape := ⟨3, ![4, 6000, 4]⟩
abbrev S4x4x6000 : Shape := ⟨3, ![4, 4, 6000]⟩
abbrev S4x1x6000 : Shape := ⟨3, ![4, 1, 6000]⟩
abbrev S4x1000x4 : Shape := ⟨3, ![4, 1000, 4]⟩
abbrev S1x4x6000 : Shape := ⟨3, ![1, 4, 6000]⟩
abbrev S1x1x6000 : Shape := ⟨3, ![1, 1, 6000]⟩
abbrev S1x1000x4 : Shape := ⟨3, ![1, 1000, 4]⟩
abbrev S1x6000 : Shape := ⟨2, ![1, 6000]⟩
abbrev S1x4 : Shape := ⟨2, ![1, 4]⟩
abbrev S1x1x4 : Shape := ⟨3, ![1, 1, 4]⟩

abbrev nBuf : Space → Nat
  | .hbm => 89
  | .vmem => 6
  | .smem => 0
  | _ => 0

abbrev bufTy : (tb : Table) → Fin (tcTables nBuf tb) → BufTy
  | .hbm, ⟨0, _⟩ => ⟨S4x261888x2, .f32⟩
  | .hbm, ⟨1, _⟩ => ⟨S4x261888x4, .f32⟩
  | .hbm, ⟨2, _⟩ => ⟨S4x261888x4, .f32⟩
  | .hbm, ⟨3, _⟩ => ⟨S4x261888x1, .f32⟩
  | .hbm, ⟨4, _⟩ => ⟨S4x261888, .f32⟩
  | .hbm, ⟨5, _⟩ => ⟨S16x65472, .f32⟩
  | .hbm, ⟨6, _⟩ => ⟨S16x6000, .f32⟩
  | .hbm, ⟨7, _⟩ => ⟨S16x6000, .i32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .i32⟩
  | .hbm, ⟨24, _⟩ => ⟨S_, .i1⟩
  | .hbm, ⟨25, _⟩ => ⟨S16, .i1⟩
  | .hbm, ⟨26, _⟩ => ⟨S16, .i1⟩
  | .hbm, ⟨27, _⟩ => ⟨S16, .i1⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x6000, .i32⟩
  | .hbm, ⟨36, _⟩ => ⟨S16x6000, .i32⟩
  | .hbm, ⟨37, _⟩ => ⟨S4x24000, .f32⟩
  | .hbm, ⟨38, _⟩ => ⟨S4x24000, .i32⟩
  | .hbm, ⟨39, _⟩ => ⟨S4x6000, .f32⟩
  | .hbm, ⟨40, _⟩ => ⟨S4x6000, .i32⟩
  | .hbm, ⟨41, _⟩ => ⟨S_, .i32⟩
  | .hbm, ⟨42, _⟩ => ⟨S4x6000, .i32⟩
  | .hbm, ⟨43, _⟩ => ⟨S4x6000, .i1⟩
  | .hbm, ⟨44, _⟩ => ⟨S_, .i32⟩
  | .hbm, ⟨45, _⟩ => ⟨S4x6000, .i32⟩
  | .hbm, ⟨46, _⟩ => ⟨S4x6000, .i32⟩
  | .hbm, ⟨47, _⟩ => ⟨S4x6000, .i32⟩
  | .hbm, ⟨48, _⟩ => ⟨S4x6000x1, .i32⟩
  | .hbm, ⟨49, _⟩ => ⟨S1, .i32⟩
  | .hbm, ⟨50, _⟩ => ⟨S_, .i32⟩
  | .hbm, ⟨51, _⟩ => ⟨S4x6000x1, .i32⟩
  | .hbm, ⟨52, _⟩ => ⟨S4x6000x1, .i1⟩
  | .hbm, ⟨53, _⟩ => ⟨S1x1x1, .i32⟩
  | .hbm, ⟨54, _⟩ => ⟨S4x6000x1, .i32⟩
  | .hbm, ⟨55, _⟩ => ⟨S4x6000x1, .i1⟩
  | .hbm, ⟨56, _⟩ => ⟨S4x6000x1, .i1⟩
  | .hbm, ⟨57, _⟩ => ⟨S_, .i1⟩
  | .hbm, ⟨58, _⟩ => ⟨S4x6000, .i1⟩
  | .hbm, ⟨59, _⟩ => ⟨S4x6000, .i32⟩
  | .hbm, ⟨60, _⟩ => ⟨S_, .i32⟩
  | .hbm, ⟨61, _⟩ => ⟨S4x6000, .i32⟩
  | .hbm, ⟨62, _⟩ => ⟨S4x6000, .i32⟩
  | .hbm, ⟨63, _⟩ => ⟨S4x6000x1, .i32⟩
  | .hbm, ⟨64, _⟩ => ⟨S_, .i32⟩
  | .hbm, ⟨65, _⟩ => ⟨S4x6000x1, .i32⟩
  | .hbm, ⟨66, _⟩ => ⟨S4x6000x1, .i1⟩
  | .hbm, ⟨67, _⟩ => ⟨S_, .i32⟩
  | .hbm, ⟨68, _⟩ => ⟨S4x6000x1, .i32⟩
  | .hbm, ⟨69, _⟩ => ⟨S4x6000x1, .i32⟩
  | .hbm, ⟨70, _⟩ => ⟨S4x6000x1, .i32⟩
  | .hbm, ⟨71, _⟩ => ⟨S1, .i32⟩
  | .hbm, ⟨72, _⟩ => ⟨S_, .i32⟩
  | .hbm, ⟨73, _⟩ => ⟨S4x6000x1, .i32⟩
  | .hbm, ⟨74, _⟩ => ⟨S4x6000x1, .i1⟩
  | .hbm, ⟨75, _⟩ => ⟨S1x1x1, .i32⟩
  | .hbm, ⟨76, _⟩ => ⟨S4x6000x1, .i32⟩
  | .hbm, ⟨77, _⟩ => ⟨S4x6000x1, .i1⟩
  | .hbm, ⟨78, _⟩ => ⟨S4x6000x1, .i1⟩
  | .hbm, ⟨79, _⟩ => ⟨S_, .i1⟩
  | .hbm, ⟨80, _⟩ => ⟨S4x6000, .i1⟩
  | .hbm, ⟨81, _⟩ => ⟨S4x6000x4, .f32⟩
  | .hbm, ⟨82, _⟩ => ⟨S4x6000x4, .i1⟩
  | .hbm, ⟨83, _⟩ => ⟨S_, .f32⟩
  | .hbm, ⟨84, _⟩ => ⟨S4x6000x4, .f32⟩
  | .hbm, ⟨85, _⟩ => ⟨S4x6000x4, .f32⟩
  | .hbm, ⟨86, _⟩ => ⟨S4x4x6000, .f32⟩
  | .hbm, ⟨87, _⟩ => ⟨S4x1x6000, .f32⟩
  | .hbm, ⟨88, _⟩ => ⟨S4x1000x4, .f32⟩
  | .local _ .vmem, ⟨0, _⟩ => ⟨S1x4x6000, .f32⟩
  | .local _ .vmem, ⟨1, _⟩ => ⟨S1x4x6000, .f32⟩
  | .local _ .vmem, ⟨2, _⟩ => ⟨S1x1x6000, .f32⟩
  | .local _ .vmem, ⟨3, _⟩ => ⟨S1x1x6000, .f32⟩
  | .local _ .vmem, ⟨4, _⟩ => ⟨S1x1000x4, .f32⟩
  | .local _ .vmem, ⟨5, _⟩ => ⟨S1x1000x4, .f32⟩
  | _, _ => ⟨S4x261888x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_values : Ref sig .tc := ⟨.hbm, 6, rfl⟩
abbrev main_call0_indices : Ref sig .tc := ⟨.hbm, 7, rfl⟩
abbrev main_call0_v3 : Ref sig .tc := ⟨.hbm, 8, rfl⟩
abbrev main_call0_c : Ref sig .tc := ⟨.hbm, 9, rfl⟩
abbrev main_call0_call0_v0 : Ref sig .tc := ⟨.hbm, 10, rfl⟩
abbrev main_call0_call0_c : Ref sig .tc := ⟨.hbm, 11, rfl⟩
abbrev main_call0_call0_v1 : Ref sig .tc := ⟨.hbm, 12, rfl⟩
abbrev main_call0_call0_c_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_c_1 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_c_2 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c_3 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_v14 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_values_1 : Ref sig .tc := ⟨.hbm, 39, rfl⟩
abbrev main_call0_indices_2 : Ref sig .tc := ⟨.hbm, 40, rfl⟩
abbrev main_call0_call1_c : Ref sig .tc := ⟨.hbm, 41, rfl⟩
abbrev main_call0_call1_v0 : Ref sig .tc := ⟨.hbm, 42, rfl⟩
abbrev main_call0_call1_v1 : Ref sig .tc := ⟨.hbm, 43, rfl⟩
abbrev main_call0_call1_c_0 : Ref sig .tc := ⟨.hbm, 44, rfl⟩
abbrev main_call0_call1_v2 : Ref sig .tc := ⟨.hbm, 45, rfl⟩
abbrev main_call0_call1_v3 : Ref sig .tc := ⟨.hbm, 46, rfl⟩
abbrev main_call0_call1_v4 : Ref sig .tc := ⟨.hbm, 47, rfl⟩
abbrev main_call0_call1_v5 : Ref sig .tc := ⟨.hbm, 48, rfl⟩
abbrev main_call0_call1_c_1 : Ref sig .tc := ⟨.hbm, 49, rfl⟩
abbrev main_call0_call1_c_2 : Ref sig .tc := ⟨.hbm, 50, rfl⟩
abbrev main_call0_call1_v6 : Ref sig .tc := ⟨.hbm, 51, rfl⟩
abbrev main_call0_call1_v7 : Ref sig .tc := ⟨.hbm, 52, rfl⟩
abbrev main_call0_call1_v8 : Ref sig .tc := ⟨.hbm, 53, rfl⟩
abbrev main_call0_call1_v9 : Ref sig .tc := ⟨.hbm, 54, rfl⟩
abbrev main_call0_call1_v10 : Ref sig .tc := ⟨.hbm, 55, rfl⟩
abbrev main_call0_call1_v11 : Ref sig .tc := ⟨.hbm, 56, rfl⟩
abbrev main_call0_call1_c_3 : Ref sig .tc := ⟨.hbm, 57, rfl⟩
abbrev main_call0_call1_v12 : Ref sig .tc := ⟨.hbm, 58, rfl⟩
abbrev main_call0_call1_v13 : Ref sig .tc := ⟨.hbm, 59, rfl⟩
abbrev main_call0_call1_c_4 : Ref sig .tc := ⟨.hbm, 60, rfl⟩
abbrev main_call0_call1_v14 : Ref sig .tc := ⟨.hbm, 61, rfl⟩
abbrev main_call0_v12 : Ref sig .tc := ⟨.hbm, 62, rfl⟩
abbrev main_call0_v13 : Ref sig .tc := ⟨.hbm, 63, rfl⟩
abbrev main_call0_call2_c : Ref sig .tc := ⟨.hbm, 64, rfl⟩
abbrev main_call0_call2_v0 : Ref sig .tc := ⟨.hbm, 65, rfl⟩
abbrev main_call0_call2_v1 : Ref sig .tc := ⟨.hbm, 66, rfl⟩
abbrev main_call0_call2_c_0 : Ref sig .tc := ⟨.hbm, 67, rfl⟩
abbrev main_call0_call2_v2 : Ref sig .tc := ⟨.hbm, 68, rfl⟩
abbrev main_call0_call2_v3 : Ref sig .tc := ⟨.hbm, 69, rfl⟩
abbrev main_call0_call2_v4 : Ref sig .tc := ⟨.hbm, 70, rfl⟩
abbrev main_call0_call2_c_1 : Ref sig .tc := ⟨.hbm, 71, rfl⟩
abbrev main_call0_call2_c_2 : Ref sig .tc := ⟨.hbm, 72, rfl⟩
abbrev main_call0_call2_v5 : Ref sig .tc := ⟨.hbm, 73, rfl⟩
abbrev main_call0_call2_v6 : Ref sig .tc := ⟨.hbm, 74, rfl⟩
abbrev main_call0_call2_v7 : Ref sig .tc := ⟨.hbm, 75, rfl⟩
abbrev main_call0_call2_v8 : Ref sig .tc := ⟨.hbm, 76, rfl⟩
abbrev main_call0_call2_v9 : Ref sig .tc := ⟨.hbm, 77, rfl⟩
abbrev main_call0_call2_v10 : Ref sig .tc := ⟨.hbm, 78, rfl⟩
abbrev main_call0_call2_c_3 : Ref sig .tc := ⟨.hbm, 79, rfl⟩
abbrev main_call0_call2_v11 : Ref sig .tc := ⟨.hbm, 80, rfl⟩
abbrev main_call0_call2_v12 : Ref sig .tc := ⟨.hbm, 81, rfl⟩
abbrev main_call0_call2_v13 : Ref sig .tc := ⟨.hbm, 82, rfl⟩
abbrev main_call0_call2_cst : Ref sig .tc := ⟨.hbm, 83, rfl⟩
abbrev main_call0_call2_v14 : Ref sig .tc := ⟨.hbm, 84, rfl⟩
abbrev main_call0_v14 : Ref sig .tc := ⟨.hbm, 85, rfl⟩
abbrev main_call0_v15 : Ref sig .tc := ⟨.hbm, 86, rfl⟩
abbrev main_call0_v16 : Ref sig .tc := ⟨.hbm, 87, rfl⟩
abbrev main_v0 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c1000_i32 : BitVec 32 := 1000#32
  let v54 : BitVec 32 := Scalar.addi c0_i32 c1000_i32
  let c1_i32 : BitVec 32 := 1#32
  ⟨c0_i32, v54, c1_i32⟩
def k0_off1 (k0_t1 : Fin k0_t1_loop.trips) : Fin 3 → Nat :=
  let c0_45 : Index := 0#32
  let c0_i32 : BitVec 32 := 0#32
  let c1_i32 : BitVec 32 := 1#32
  let arg4 : BitVec 32 := Scf.iv c0_i32 c1_i32 k0_t1
  let v151 : Index := Scalar.indexCast arg4
  let c0_46 : Index := 0#32
  ![0, v151.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x6000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x261888x2 : Shape := ⟨3, ![4, 261888, 2]⟩
abbrev S4x261888x4 : Shape := ⟨3, ![4, 261888, 4]⟩
abbrev S4x261888x1 : Shape := ⟨3, ![4, 261888, 1]⟩
abbrev S4x261888 : Shape := ⟨2, ![4, 261888]⟩
abbrev S4x6000 : Shape := ⟨2, ![4, 6000]⟩
abbrev S4x6000x1 : Shape := ⟨3, ![4, 6000, 1]⟩
abbrev S_ : Shape := ⟨0, ![]⟩
abbrev S1 : Shape := ⟨1, ![1]⟩
abbrev S1x1x1 : Shape := ⟨3, ![1, 1, 1]⟩
abbrev S4x6000x4 : Shape := ⟨3, ![4, 6000, 4]⟩
abbrev S6000 : Shape := ⟨1, ![6000]⟩
abbrev S1000x4x4 : Shape := ⟨3, ![1000, 4, 4]⟩
abbrev S4 : Shape := ⟨1, ![4]⟩
abbrev S4x1 : Shape := ⟨2, ![4, 1]⟩
abbrev S1x1 : Shape := ⟨2, ![1, 1]⟩
abbrev S4x4 : Shape := ⟨2, ![4, 4]⟩
abbrev S1x6000 : Shape := ⟨2, ![1, 6000]⟩
abbrev S1x4x4 : Shape := ⟨3, ![1, 4, 4]⟩
abbrev S4x1000x4 : Shape := ⟨3, ![4, 1000, 4]⟩

abbrev nBuf : Space → Nat
  | .hbm => 262
  | .vmem => 0
  | .smem => 0
  | _ => 0

abbrev hbmTy0_0 (i : Nat) : BufTy := match i % 128 with
  | 0 => ⟨S4x261888x2, .f32⟩
  | 1 => ⟨S4x261888x4, .f32⟩
  | 2 => ⟨S4x261888x4, .f32⟩
  | 3 => ⟨S4x261888x1, .f32⟩
  | 4 => ⟨S4x261888, .f32⟩
  | 5 => ⟨S4x6000, .f32⟩
  | 6 => ⟨S4x6000, .i32⟩
  | 7 => ⟨S4x6000x1, .i32⟩
  | 8 => ⟨S_, .i32⟩
  | 9 => ⟨S4x6000x1, .i32⟩
  | 10 => ⟨S4x6000x1, .i1⟩
  | 11 => ⟨S_, .i32⟩
  | 12 => ⟨S4x6000x1, .i32⟩
  | 13 => ⟨S4x6000x1, .i32⟩
  | 14 => ⟨S4x6000x1, .i32⟩
  | 15 => ⟨S1, .i32⟩
  | 16 => ⟨S_, .i32⟩
  | 17 => ⟨S4x6000x1, .i32⟩
  | 18 => ⟨S4x6000x1, .i1⟩
  | 19 => ⟨S1x1x1, .i32⟩
  | 20 => ⟨S4x6000x1, .i32⟩
  | 21 => ⟨S4x6000x1, .i1⟩
  | 22 => ⟨S4x6000x1, .i1⟩
  | 23 => ⟨S_, .i1⟩
  | 24 => ⟨S4x6000, .i1⟩
  | 25 => ⟨S4x6000x4, .f32⟩
  | 26 => ⟨S4x6000x4, .i1⟩
  | 27 => ⟨S_, .f32⟩
  | 28 => ⟨S4x6000x4, .f32⟩
  | 29 => ⟨S4x6000x4, .f32⟩
  | 30 => ⟨S4x6000x1, .f32⟩
  | 31 => ⟨S4x6000, .f32⟩
  | 32 => ⟨S4x6000x1, .f32⟩
  | 33 => ⟨S4x6000, .f32⟩
  | 34 => ⟨S4x6000, .f32⟩
  | 35 => ⟨S4x6000x1, .f32⟩
  | 36 => ⟨S4x6000, .f32⟩
  | 37 => ⟨S4x6000x1, .f32⟩
  | 38 => ⟨S4x6000, .f32⟩
  | 39 => ⟨S4x6000, .f32⟩
  | 40 => ⟨S4x6000x1, .f32⟩
  | 41 => ⟨S4x6000, .f32⟩
  | 42 => ⟨S_, .f32⟩
  | 43 => ⟨S4x6000, .f32⟩
  | 44 => ⟨S4x6000, .f32⟩
  | 45 => ⟨S4x6000, .f32⟩
  | 46 => ⟨S4x6000x1, .f32⟩
  | 47 => ⟨S4x6000, .f32⟩
  | 48 => ⟨S_, .f32⟩
  | 49 => ⟨S4x6000, .f32⟩
  | 50 => ⟨S4x6000, .f32⟩
  | 51 => ⟨S4x6000, .f32⟩
  | 52 => ⟨S4x6000x1, .f32⟩
  | 53 => ⟨S4x6000, .f32⟩
  | 54 => ⟨S4x6000, .f32⟩
  | 55 => ⟨S4x6000, .f32⟩
  | 56 => ⟨S4x6000x1, .f32⟩
  | 57 => ⟨S4x6000, .f32⟩
  | 58 => ⟨S4x6000, .f32⟩
  | 59 => ⟨S4x6000, .f32⟩
  | 60 => ⟨S4x6000x1, .f32⟩
  | 61 => ⟨S4x6000, .f32⟩
  | 62 => ⟨S4x6000, .f32⟩
  | 63 => ⟨S4x6000, .f32⟩
  | 64 => ⟨S4x6000x1, .f32⟩
  | 65 => ⟨S4x6000, .f32⟩
  | 66 => ⟨S4x6000, .f32⟩
  | 67 => ⟨S4x6000, .f32⟩
  | 68 => ⟨S_, .f32⟩
  | 69 => ⟨S4x6000, .f32⟩
  | 70 => ⟨S4x6000, .f32⟩
  | 71 => ⟨S4x6000, .f32⟩
  | 72 => ⟨S_, .f32⟩
  | 73 => ⟨S4x6000, .f32⟩
  | 74 => ⟨S4x6000, .f32⟩
  | 75 => ⟨S4x6000, .f32⟩
  | 76 => ⟨S4x6000, .f32⟩
  | 77 => ⟨S4x6000, .f32⟩
  | 78 => ⟨S4x6000x1, .f32⟩
  | 79 => ⟨S4x6000x1, .f32⟩
  | 80 => ⟨S4x6000x1, .f32⟩
  | 81 => ⟨S4x6000x1, .f32⟩
  | 82 => ⟨S4x6000x4, .f32⟩
  | 83 => ⟨S_, .f32⟩
  | 84 => ⟨S_, .f32⟩
  | 85 => ⟨S_, .f32⟩
  | 86 => ⟨S4x6000x4, .f32⟩
  | 87 => ⟨S4x6000x4, .f32⟩
  | 88 => ⟨S_, .f32⟩
  | 89 => ⟨S4x6000x4, .f32⟩
  | 90 => ⟨S4x6000x4, .f32⟩
  | 91 => ⟨S4x6000, .f32⟩
  | 92 => ⟨S6000, .i32⟩
  | 93 => ⟨S4x6000, .i32⟩
  | 94 => ⟨S4x6000, .f32⟩
  | 95 => ⟨S4x6000, .i32⟩
  | 96 => ⟨S_, .i32⟩
  | 97 => ⟨S4x6000, .i32⟩
  | 98 => ⟨S4x6000, .i1⟩
  | 99 => ⟨S_, .i32⟩
  | 100 => ⟨S4x6000, .i32⟩
  | 101 => ⟨S4x6000, .i32⟩
  | 102 => ⟨S4x6000, .i32⟩
  | 103 => ⟨S4x6000x1, .i32⟩
  | 104 => ⟨S4x6000x4, .f32⟩
  | 105 => ⟨S4x6000x1, .f32⟩
  | 106 => ⟨S4x6000, .f32⟩
  | 107 => ⟨S4x6000x1, .f32⟩
  | 108 => ⟨S4x6000, .f32⟩
  | 109 => ⟨S4x6000, .f32⟩
  | 110 => ⟨S4x6000x1, .f32⟩
  | 111 => ⟨S4x6000, .f32⟩
  | 112 => ⟨S4x6000x1, .f32⟩
  | 113 => ⟨S4x6000, .f32⟩
  | 114 => ⟨S4x6000, .f32⟩
  | 115 => ⟨S4x6000, .f32⟩
  | 116 => ⟨S_, .i1⟩
  | 117 => ⟨S6000, .i1⟩
  | 118 => ⟨S4x6000, .i1⟩
  | 119 => ⟨S_, .f32⟩
  | 120 => ⟨S1000x4x4, .f32⟩
  | 121 => ⟨S_, .i32⟩
  | 122 => ⟨S4x6000x4, .f32⟩
  | 123 => ⟨S4x6000, .f32⟩
  | 124 => ⟨S_, .i32⟩
  | 125 => ⟨S4x6000, .i1⟩
  | 126 => ⟨S1000x4x4, .f32⟩
  | 127 => ⟨S_, .i32⟩
  | _ => ⟨S4x261888x2, .f32⟩

abbrev hbmTy0_1 (i : Nat) : BufTy := match i % 128 with
  | 0 => ⟨S_, .i1⟩
  | 1 => ⟨S4x6000, .i1⟩
  | 2 => ⟨S4x6000, .i32⟩
  | 3 => ⟨S_, .i1⟩
  | 4 => ⟨S_, .i32⟩
  | 5 => ⟨S4, .i1⟩
  | 6 => ⟨S4, .i32⟩
  | 7 => ⟨S_, .i32⟩
  | 8 => ⟨S4, .i32⟩
  | 9 => ⟨S4, .i1⟩
  | 10 => ⟨S_, .i32⟩
  | 11 => ⟨S4, .i32⟩
  | 12 => ⟨S4, .i32⟩
  | 13 => ⟨S4, .i32⟩
  | 14 => ⟨S4x1, .i32⟩
  | 15 => ⟨S1, .i32⟩
  | 16 => ⟨S_, .i32⟩
  | 17 => ⟨S4x1, .i32⟩
  | 18 => ⟨S4x1, .i1⟩
  | 19 => ⟨S1x1, .i32⟩
  | 20 => ⟨S4x1, .i32⟩
  | 21 => ⟨S4x1, .i1⟩
  | 22 => ⟨S4x1, .i1⟩
  | 23 => ⟨S_, .i1⟩
  | 24 => ⟨S4, .i1⟩
  | 25 => ⟨S4, .i1⟩
  | 26 => ⟨S_, .i1⟩
  | 27 => ⟨S4, .i1⟩
  | 28 => ⟨S4, .i1⟩
  | 29 => ⟨S_, .i32⟩
  | 30 => ⟨S4, .i32⟩
  | 31 => ⟨S4, .i1⟩
  | 32 => ⟨S_, .i32⟩
  | 33 => ⟨S4, .i32⟩
  | 34 => ⟨S4, .i32⟩
  | 35 => ⟨S4, .i32⟩
  | 36 => ⟨S4x1, .i32⟩
  | 37 => ⟨S1, .i32⟩
  | 38 => ⟨S_, .i32⟩
  | 39 => ⟨S4x1, .i32⟩
  | 40 => ⟨S4x1, .i1⟩
  | 41 => ⟨S1x1, .i32⟩
  | 42 => ⟨S4x1, .i32⟩
  | 43 => ⟨S4x1, .i1⟩
  | 44 => ⟨S4x1, .i1⟩
  | 45 => ⟨S_, .i1⟩
  | 46 => ⟨S4, .i1⟩
  | 47 => ⟨S4x4, .f32⟩
  | 48 => ⟨S4x4, .i1⟩
  | 49 => ⟨S_, .f32⟩
  | 50 => ⟨S4x4, .f32⟩
  | 51 => ⟨S4x4, .f32⟩
  | 52 => ⟨S4x1, .f32⟩
  | 53 => ⟨S4, .f32⟩
  | 54 => ⟨S4x6000x1, .f32⟩
  | 55 => ⟨S4x6000, .f32⟩
  | 56 => ⟨S4x1, .f32⟩
  | 57 => ⟨S4x6000, .f32⟩
  | 58 => ⟨S4x6000, .f32⟩
  | 59 => ⟨S4x1, .f32⟩
  | 60 => ⟨S4, .f32⟩
  | 61 => ⟨S4x6000x1, .f32⟩
  | 62 => ⟨S4x6000, .f32⟩
  | 63 => ⟨S4x1, .f32⟩
  | 64 => ⟨S4x6000, .f32⟩
  | 65 => ⟨S4x6000, .f32⟩
  | 66 => ⟨S4x1, .f32⟩
  | 67 => ⟨S4, .f32⟩
  | 68 => ⟨S4x6000x1, .f32⟩
  | 69 => ⟨S4x6000, .f32⟩
  | 70 => ⟨S4x1, .f32⟩
  | 71 => ⟨S4x6000, .f32⟩
  | 72 => ⟨S4x6000, .f32⟩
  | 73 => ⟨S4x1, .f32⟩
  | 74 => ⟨S4, .f32⟩
  | 75 => ⟨S4x6000x1, .f32⟩
  | 76 => ⟨S4x6000, .f32⟩
  | 77 => ⟨S4x1, .f32⟩
  | 78 => ⟨S4x6000, .f32⟩
  | 79 => ⟨S4x6000, .f32⟩
  | 80 => ⟨S4x6000, .f32⟩
  | 81 => ⟨S_, .f32⟩
  | 82 => ⟨S4x6000, .f32⟩
  | 83 => ⟨S4x6000, .f32⟩
  | 84 => ⟨S4x6000, .f32⟩
  | 85 => ⟨S_, .f32⟩
  | 86 => ⟨S4x6000, .f32⟩
  | 87 => ⟨S4x6000, .f32⟩
  | 88 => ⟨S4x6000, .f32⟩
  | 89 => ⟨S4x1, .f32⟩
  | 90 => ⟨S4, .f32⟩
  | 91 => ⟨S4x1, .f32⟩
  | 92 => ⟨S4, .f32⟩
  | 93 => ⟨S4, .f32⟩
  | 94 => ⟨S4x1, .f32⟩
  | 95 => ⟨S4, .f32⟩
  | 96 => ⟨S4x1, .f32⟩
  | 97 => ⟨S4, .f32⟩
  | 98 => ⟨S4, .f32⟩
  | 99 => ⟨S4, .f32⟩
  | 100 => ⟨S4x1, .f32⟩
  | 101 => ⟨S4x6000, .f32⟩
  | 102 => ⟨S4x6000, .f32⟩
  | 103 => ⟨S4x6000, .f32⟩
  | 104 => ⟨S_, .f32⟩
  | 105 => ⟨S4x6000, .f32⟩
  | 106 => ⟨S4x6000, .f32⟩
  | 107 => ⟨S4x6000, .f32⟩
  | 108 => ⟨S_, .f32⟩
  | 109 => ⟨S4x6000, .f32⟩
  | 110 => ⟨S4x6000, .i1⟩
  | 111 => ⟨S4x1, .i1⟩
  | 112 => ⟨S4x6000, .i1⟩
  | 113 => ⟨S4x6000, .i1⟩
  | 114 => ⟨S4x6000, .i1⟩
  | 115 => ⟨S6000, .i32⟩
  | 116 => ⟨S1x6000, .i32⟩
  | 117 => ⟨S4x1, .i32⟩
  | 118 => ⟨S4x6000, .i32⟩
  | 119 => ⟨S4x6000, .i32⟩
  | 120 => ⟨S4x6000, .i1⟩
  | 121 => ⟨S4x6000, .i1⟩
  | 122 => ⟨S_, .f32⟩
  | 123 => ⟨S4, .f32⟩
  | 124 => ⟨S4x4, .f32⟩
  | 125 => ⟨S4x4, .i1⟩
  | 126 => ⟨S4x4, .f32⟩
  | 127 => ⟨S1x4x4, .f32⟩
  | _ => ⟨S4x261888x2, .f32⟩

abbrev hbmTy0_2 (i : Nat) : BufTy := match i % 128 with
  | 0 => ⟨S_, .i32⟩
  | 1 => ⟨S_, .i32⟩
  | 2 => ⟨S1000x4x4, .f32⟩
  | 3 => ⟨S_, .i32⟩
  | 4 => ⟨S_, .i32⟩
  | 5 => ⟨S4x1000x4, .f32⟩
  | _ => ⟨S4x261888x2, .f32⟩

abbrev hbmTy (i : Nat) : BufTy := match i / 128 with
  | 0 => hbmTy0_0 i
  | 1 => hbmTy0_1 i
  | 2 => hbmTy0_2 i
  | _ => ⟨S4x261888x2, .f32⟩

abbrev bufTy : (tb : Table) → Fin (tcTables nBuf tb) → BufTy
  | .hbm, ⟨i, _⟩ => hbmTy i
  | _, _ => ⟨S4x261888x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_0 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_3 : Ref sig .tc := ⟨.hbm, 83, rfl⟩
abbrev main_cst_4 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v53 : Ref sig .tc := ⟨.hbm, 90, rfl⟩
abbrev main_v54 : Ref sig .tc := ⟨.hbm, 91, rfl⟩
abbrev main_call2_v0 : Ref sig .tc := ⟨.hbm, 92, rfl⟩
abbrev main_call2_v1 : Ref sig .tc := ⟨.hbm, 93, rfl⟩
abbrev main_call2_v2_0 : Ref sig .tc := ⟨.hbm, 94, rfl⟩
abbrev main_v55 : Ref sig .tc := ⟨.hbm, 95, rfl⟩
abbrev main_c : Ref sig .tc := ⟨.hbm, 96, rfl⟩
abbrev main_v56 : Ref sig .tc := ⟨.hbm, 97, rfl⟩
abbrev main_v57 : Ref sig .tc := ⟨.hbm, 98, rfl⟩
abbrev main_c_5 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_6 : Ref sig .tc := ⟨.hbm, 116, rfl⟩
abbrev main_v74 : Ref sig .tc := ⟨.hbm, 117, rfl⟩
abbrev main_v75 : Ref sig .tc := ⟨.hbm, 118, rfl⟩
abbrev main_cst_7 : Ref sig .tc := ⟨.hbm, 119, rfl⟩
abbrev main_v76 : Ref sig .tc := ⟨.hbm, 120, rfl⟩
abbrev main_c_8 : Ref sig .tc := ⟨.hbm, 121, rfl⟩
abbrev main_v77_0 : Ref sig .tc := ⟨.hbm, 122, rfl⟩
abbrev main_v77_1 : Ref sig .tc := ⟨.hbm, 123, rfl⟩
abbrev main_v77_2 : Ref sig .tc := ⟨.hbm, 124, rfl⟩
abbrev main_v77_3 : Ref sig .tc := ⟨.hbm, 125, rfl⟩
abbrev main_v77_4 : Ref sig .tc := ⟨.hbm, 126, rfl⟩
abbrev main_while0c_c_13 : Ref sig .tc := ⟨.hbm, 127, rfl⟩
abbrev main_while0c_v79 : Ref sig .tc := ⟨.hbm, 128, rfl⟩
abbrev main_while0b_v79 : Ref sig .tc := ⟨.hbm, 129, rfl⟩
abbrev main_while0b_call3_v0 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_v1_0 : Ref sig .tc := ⟨.hbm, 133, rfl⟩
abbrev main_while0b_v80 : Ref sig .tc := ⟨.hbm, 134, rfl⟩
abbrev main_while0b_call4_c : Ref sig .tc := ⟨.hbm, 135, rfl⟩
abbrev main_while0b_call4_v0 : Ref sig .tc := ⟨.hbm, 136, rfl⟩
abbrev main_while0b_call4_v1 : Ref sig .tc := ⟨.hbm, 137, rfl⟩
abbrev main_while0b_call4_c_0 : Ref sig .tc := ⟨.hbm, 138, rfl⟩
abbrev main_while0b_call4_v2 : Ref sig .tc := ⟨.hbm, 139, rfl⟩
abbrev main_while0b_call4_v3 : Ref sig .tc := ⟨.hbm, 140, rfl⟩
abbrev main_while0b_call4_v4 : Ref sig .tc := ⟨.hbm, 141, rfl⟩
abbrev main_while0b_call4_v5 : Ref sig .tc := ⟨.hbm, 142, rfl⟩
abbrev main_while0b_call4_c_1 : Ref sig .tc := ⟨.hbm, 143, rfl⟩
abbrev main_while0b_call4_c_2 : Ref sig .tc := ⟨.hbm, 144, rfl⟩
abbrev main_while0b_call4_v6 : Ref sig .tc := ⟨.hbm, 145, rfl⟩
abbrev main_while0b_call4_v7 : Ref sig .tc := ⟨.hbm, 146, rfl⟩
abbrev main_while0b_call4_v8 : Ref sig .tc := ⟨.hbm, 147, rfl⟩
abbrev main_while0b_call4_v9 : Ref sig .tc := ⟨.hbm, 148, rfl⟩
abbrev main_while0b_call4_v10 : Ref sig .tc := ⟨.hbm, 149, rfl⟩
abbrev main_while0b_call4_v11 : Ref sig .tc := ⟨.hbm, 150, rfl⟩
abbrev main_while0b_call4_c_3 : Ref sig .tc := ⟨.hbm, 151, rfl⟩
abbrev main_while0b_call4_v12 : Ref sig .tc := ⟨.hbm, 152, rfl⟩
abbrev main_while0b_call4_v13 : Ref sig .tc := ⟨.hbm, 153, rfl⟩
abbrev main_while0b_call4_c_4 : Ref sig .tc := ⟨.hbm, 154, rfl⟩
abbrev main_while0b_call4_v14 : Ref sig .tc := ⟨.hbm, 155, rfl⟩
abbrev main_while0b_v81 : Ref sig .tc := ⟨.hbm, 156, rfl⟩
abbrev main_while0b_call5_c : Ref sig .tc := ⟨.hbm, 157, rfl⟩
abbrev main_while0b_call5_v0 : Ref sig .tc := ⟨.hbm, 158, rfl⟩
abbrev main_while0b_call5_v1 : Ref sig .tc := ⟨.hbm, 159, rfl⟩
abbrev main_while0b_call5_c_0 : Ref sig .tc := ⟨.hbm, 160, rfl⟩
abbrev main_while0b_call5_v2 : Ref sig .tc := ⟨.hbm, 161, rfl⟩
abbrev main_while0b_call5_v3 : Ref sig .tc := ⟨.hbm, 162, rfl⟩
abbrev main_while0b_call5_v4 : Ref sig .tc := ⟨.hbm, 163, rfl⟩
abbrev main_while0b_call5_v5 : Ref sig .tc := ⟨.hbm, 164, rfl⟩
abbrev main_while0b_call5_c_1 : Ref sig .tc := ⟨.hbm, 165, rfl⟩
abbrev main_while0b_call5_c_2 : Ref sig .tc := ⟨.hbm, 166, rfl⟩
abbrev main_while0b_call5_v6 : Ref sig .tc := ⟨.hbm, 167, rfl⟩
abbrev main_while0b_call5_v7 : Ref sig .tc := ⟨.hbm, 168, rfl⟩
abbrev main_while0b_call5_v8 : Ref sig .tc := ⟨.hbm, 169, rfl⟩
abbrev main_while0b_call5_v9 : Ref sig .tc := ⟨.hbm, 170, rfl⟩
abbrev main_while0b_call5_v10 : Ref sig .tc := ⟨.hbm, 171, rfl⟩
abbrev main_while0b_call5_v11 : Ref sig .tc := ⟨.hbm, 172, rfl⟩
abbrev main_while0b_call5_c_3 : Ref sig .tc := ⟨.hbm, 173, rfl⟩
abbrev main_while0b_call5_v12 : Ref sig .tc := ⟨.hbm, 174, rfl⟩
abbrev main_while0b_call5_v13 : Ref sig .tc := ⟨.hbm, 175, rfl⟩
abbrev main_while0b_call5_v14 : Ref sig .tc := ⟨.hbm, 176, rfl⟩
abbrev main_while0b_call5_cst : Ref sig .tc := ⟨.hbm, 177, rfl⟩
abbrev main_while0b_call5_v15 : Ref sig .tc := ⟨.hbm, 178, rfl⟩
abbrev main_while0b_v82 : Ref sig .tc := ⟨.hbm, 179, rfl⟩
abbrev main_while0b_v83 : Ref sig .tc := ⟨.hbm, 180, rfl⟩
abbrev main_while0b_v84 : Ref sig .tc := ⟨.hbm, 181, rfl⟩
abbrev main_while0b_v85 : Ref sig .tc := ⟨.hbm, 182, rfl⟩
abbrev main_while0b_v86 : Ref sig .tc := ⟨.hbm, 183, rfl⟩
abbrev main_while0b_v87 : Ref sig .tc := ⟨.hbm, 184, rfl⟩
abbrev main_while0b_v88 : Ref sig .tc := ⟨.hbm, 185, rfl⟩
abbrev main_while0b_v89 : Ref sig .tc := ⟨.hbm, 186, rfl⟩
abbrev main_while0b_v90 : Ref sig .tc := ⟨.hbm, 187, rfl⟩
abbrev main_while0b_v91 : Ref sig .tc := ⟨.hbm, 188, rfl⟩
abbrev main_while0b_v92 : Ref sig .tc := ⟨.hbm, 189, rfl⟩
abbrev main_while0b_v93 : Ref sig .tc := ⟨.hbm, 190, rfl⟩
abbrev main_while0b_v94 : Ref sig .tc := ⟨.hbm, 191, rfl⟩
abbrev main_while0b_v95 : Ref sig .tc := ⟨.hbm, 192, rfl⟩
abbrev main_while0b_v96 : Ref sig .tc := ⟨.hbm, 193, rfl⟩
abbrev main_while0b_v97 : Ref sig .tc := ⟨.hbm, 194, rfl⟩
abbrev main_while0b_v98 : Ref sig .tc := ⟨.hbm, 195, rfl⟩
abbrev main_while0b_v99 : Ref sig .tc := ⟨.hbm, 196, rfl⟩
abbrev main_while0b_v100 : Ref sig .tc := ⟨.hbm, 197, rfl⟩
abbrev main_while0b_v101 : Ref sig .tc := ⟨.hbm, 198, rfl⟩
abbrev main_while0b_v102 : Ref sig .tc := ⟨.hbm, 199, rfl⟩
abbrev main_while0b_v103 : Ref sig .tc := ⟨.hbm, 200, rfl⟩
abbrev main_while0b_v104 : Ref sig .tc := ⟨.hbm, 201, rfl⟩
abbrev main_while0b_v105 : Ref sig .tc := ⟨.hbm, 202, rfl⟩
abbrev main_while0b_v106 : Ref sig .tc := ⟨.hbm, 203, rfl⟩
abbrev main_while0b_v107 : Ref sig .tc := ⟨.hbm, 204, rfl⟩
abbrev main_while0b_v108 : Ref sig .tc := ⟨.hbm, 205, rfl⟩
abbrev main_while0b_v109 : Ref sig .tc := ⟨.hbm, 206, rfl⟩
abbrev main_while0b_v110 : Ref sig .tc := ⟨.hbm, 207, rfl⟩
abbrev main_while0b_v111 : Ref sig .tc := ⟨.hbm, 208, rfl⟩
abbrev main_while0b_cst_13 : Ref sig .tc := ⟨.hbm, 209, rfl⟩
abbrev main_while0b_v112 : Ref sig .tc := ⟨.hbm, 210, rfl⟩
abbrev main_while0b_v113 : Ref sig .tc := ⟨.hbm, 211, rfl⟩
abbrev main_while0b_v114 : Ref sig .tc := ⟨.hbm, 212, rfl⟩
abbrev main_while0b_cst_14 : Ref sig .tc := ⟨.hbm, 213, rfl⟩
abbrev main_while0b_v115 : Ref sig .tc := ⟨.hbm, 214, rfl⟩
abbrev main_while0b_v116 : Ref sig .tc := ⟨.hbm, 215, rfl⟩
abbrev main_while0b_v117 : Ref sig .tc := ⟨.hbm, 216, rfl⟩
abbrev main_while0b_v118 : Ref sig .tc := ⟨.hbm, 217, rfl⟩
abbrev main_while0b_v119 : Ref sig .tc := ⟨.hbm, 218, rfl⟩
abbrev main_while0b_v120 : Ref sig .tc := ⟨.hbm, 219, rfl⟩
abbrev main_while0b_v121 : Ref sig .tc := ⟨.hbm, 220, rfl⟩
abbrev main_while0b_v122 : Ref sig .tc := ⟨.hbm, 221, rfl⟩
abbrev main_while0b_v123 : Ref sig .tc := ⟨.hbm, 222, rfl⟩
abbrev main_while0b_v124 : Ref sig .tc := ⟨.hbm, 223, rfl⟩
abbrev main_while0b_v125 : Ref sig .tc := ⟨.hbm, 224, rfl⟩
abbrev main_while0b_v126 : Ref sig .tc := ⟨.hbm, 225, rfl⟩
abbrev main_while0b_v127 : Ref sig .tc := ⟨.hbm, 226, rfl⟩
abbrev main_while0b_v128 : Ref sig .tc := ⟨.hbm, 227, rfl⟩
abbrev main_while0b_v129 : Ref sig .tc := ⟨.hbm, 228, rfl⟩
abbrev main_while0b_v130 : Ref sig .tc := ⟨.hbm, 229, rfl⟩
abbrev main_while0b_v131 : Ref sig .tc := ⟨.hbm, 230, rfl⟩
abbrev main_while0b_v132 : Ref sig .tc := ⟨.hbm, 231, rfl⟩
abbrev main_while0b_cst_15 : Ref sig .tc := ⟨.hbm, 232, rfl⟩
abbrev main_while0b_v133 : Ref sig .tc := ⟨.hbm, 233, rfl⟩
abbrev main_while0b_v134 : Ref sig .tc := ⟨.hbm, 234, rfl⟩
abbrev main_while0b_v135 : Ref sig .tc := ⟨.hbm, 235, rfl⟩
abbrev main_while0b_cst_16 : Ref sig .tc := ⟨.hbm, 236, rfl⟩
abbrev main_while0b_v136 : Ref sig .tc := ⟨.hbm, 237, rfl⟩
abbrev main_while0b_v137 : Ref sig .tc := ⟨.hbm, 238, rfl⟩
abbrev main_while0b_v138 : Ref sig .tc := ⟨.hbm, 239, rfl⟩
abbrev main_while0b_v139 : Ref sig .tc := ⟨.hbm, 240, rfl⟩
abbrev main_while0b_v140 : Ref sig .tc := ⟨.hbm, 241, rfl⟩
abbrev main_while0b_v141 : Ref sig .tc := ⟨.hbm, 242, rfl⟩
abbrev main_while0b_v142 : Ref sig .tc := ⟨.hbm, 243, rfl⟩
abbrev main_while0b_v143 : Ref sig .tc := ⟨.hbm, 244, rfl⟩
abbrev main_while0b_v144 : Ref sig .tc := ⟨.hbm, 245, rfl⟩
abbrev main_while0b_v145 : Ref sig .tc := ⟨.hbm, 246, rfl⟩
abbrev main_while0b_v146 : Ref sig .tc := ⟨.hbm, 247, rfl⟩
abbrev main_while0b_v147 : Ref sig .tc := ⟨.hbm, 248, rfl⟩
abbrev main_while0b_v148 : Ref sig .tc := ⟨.hbm, 249, rfl⟩
abbrev main_while0b_cst_17 : Ref sig .tc := ⟨.hbm, 250, rfl⟩
abbrev main_while0b_v149 : Ref sig .tc := ⟨.hbm, 251, rfl⟩
abbrev main_while0b_call6_v0 : Ref sig .tc := ⟨.hbm, 252, rfl⟩
abbrev main_while0b_call6_v1 : Ref sig .tc := ⟨.hbm, 253, rfl⟩
abbrev main_while0b_v150 : Ref sig .tc := ⟨.hbm, 254, rfl⟩
abbrev main_while0b_call7_v0 : Ref sig .tc := ⟨.hbm, 255, rfl⟩
abbrev main_while0b_call7_c : Ref sig .tc := ⟨.hbm, 256, rfl⟩
abbrev main_while0b_call7_c_0 : Ref sig .tc := ⟨.hbm, 257, rfl⟩
abbrev main_while0b_v151 : Ref sig .tc := ⟨.hbm, 258, rfl⟩
abbrev main_while0b_c_18 : Ref sig .tc := ⟨.hbm, 259, rfl⟩
abbrev main_while0b_v152 : Ref sig .tc := ⟨.hbm, 260, rfl⟩
abbrev main_v78 : Ref sig .tc := ⟨.hbm, 261, rfl⟩

abbrev nD : Nat := 1
abbrev τ : Topo := Topo.v7x

variable {F : FTy → Type} [FloatOps F]

abbrev main_while0_count : Scf.Loop 32 := ⟨0#32, 1000#32, 1#32⟩
-- ==== Proof.Trip.lean ====
/- One trip of the kernel's loop as its stored vectors: what it carries on and the one row it writes. -/
module

public import proofs.«01_k».proof.Proof.Gen.KernelIdeal.Value
public import Idealize.ShloMosaic.Lib.Pointwise
public import Idealize.ShloMosaic.Lib.WholeRead

@[expose] public section

noncomputable section

namespace Cert.Proof

open Idealize.ShloMosaic Idealize.ShloMosaic.TcCoe Cert.KernelIdeal Cert.KernelIdeal.Gen

variable {F : FTy → Type} [FloatOps F]

/-- Some box is still available: the least available position is below the number of boxes. -/
def kValid (n : IVec S1x6000 32) (a : FVec F S1x6000 .f32) : BitVec 1 :=
  Scalar.cmpi .slt (extractAt ![0, 0, 0] (k0_pay6 n a) inpos_S1x1x1_p0_0_0) 6000#32

/-- The availability vector that a trip carries on. -/
def kNext (y x y' : FVec F S1x6000 .f32) (one : F .f32) (x' : FVec F S1x6000 .f32) (n : IVec S1x6000 32) (a : FVec F S1x6000 .f32) :
    FVec F S1x6000 .f32 :=
  k0_pay17 (k0_pay1 one x') (k0_pay2 y x y' one x') a (kValid n a) (k0_pay7 n a) (k0_pay12 y x y' (k0_pay1 one x') n a)
    (k0_pay13 y n a) (k0_pay14 x n a) (k0_pay15 y' n a) (k0_pay16 (k0_pay1 one x') n a)

/-- The row that a trip writes. -/
def kRow (y x y' : FVec F S1x6000 .f32) (one : F .f32) (x' : FVec F S1x6000 .f32) (n : IVec S1x6000 32) (l : IVec S1x4 32)
    (a : FVec F S1x6000 .f32) : FVec F S1x1x4 .f32 :=
  k0_pay5 (k0_pay18 (kValid n a)) (k0_pay19 l (k0_pay8 y n a) (k0_pay9 x n a) (k0_pay10 y' n a)) (k0_pay20 l)
    (Scalar.ofBits .f32 0x00000000#32) (k0_pay21 (k0_pay11 (k0_pay1 one x') n a))

section
variable (𝒱 : Variants) (c : Dev nD) (bd : Option 𝒱.V) (i : grid0.Coords) (arg1 : Memref sig .tc .vmem S1x4x6000 .f32)
  (harg1 : arg1.IsWhole) (arg2 : Memref sig .tc .vmem S1x1x6000 .f32) (harg2 : arg2.IsWhole)
  (arg3 : Memref sig .tc .vmem S1x1000x4 .f32) (harg3 : arg3.IsWhole)
  (v33 v37 v41 : FVec F S1x6000 .f32) (one : F .f32) (v43 : FVec F S1x6000 .f32) (v49 : IVec S1x6000 32) (v50 : IVec S1x4 32)

theorem tripR_eq (k : Fin k0_t1_loop.trips) (acc : FVec F S1x6000 .f32) :
    tripR_k0_t1 𝒱 c bd i arg1 harg1 arg2 harg2 arg3 harg3 v33 v37 v41 one v43 v49 v50 k acc = kNext v33 v37 v41 one v43 v49 acc := by
  unfold tripR_k0_t1 trip_k0_t1
  rfl

theorem tripL_eq (k : Fin k0_t1_loop.trips) (acc : FVec F S1x6000 .f32) :
    tripL_k0_t1 𝒱 c bd i arg1 harg1 arg2 harg2 arg3 harg3 v33 v37 v41 one v43 v49 v50 k acc
      = [⟨Rect.unit (s := S1x1000x4) (k0_off1 k) S1x1x4.size (k0_off1_inb k), kRow v33 v37 v41 one v43 v49 v50 acc⟩] := by
  unfold tripL_k0_t1 trip_k0_t1
  rfl

end

/-- The image's row of lane numbers. -/
def lanes6000 : IVec S1x6000 32 := iota .tc S1x6000 32 [1] iota_S1x6000_d1_w32
/-- The four coordinates' numbers. -/
def lanes4 : IVec S1x4 32 := iota .tc S1x4 32 [1] iota_S1x4_d1_w32

/-- The availability vector before trip `k`. -/
def kState (x0 : Vec F S1x4x6000 .f32) : ℕ → FVec F S1x6000 .f32
  | 0 => k0_pay4
  | k + 1 => kNext (k0_pay33 x0) (k0_pay34 x0) (k0_pay35 x0) (Scalar.ofBits .f32 0x3F800000#32) (k0_pay36 x0) lanes6000 (kState x0 k)

/-- The row that trip `k` writes. -/
def kRowAt (x0 : Vec F S1x4x6000 .f32) (k : ℕ) : FVec F S1x1x4 .f32 :=
  kRow (k0_pay33 x0) (k0_pay34 x0) (k0_pay35 x0) (Scalar.ofBits .f32 0x3F800000#32) (k0_pay36 x0) lanes6000 lanes4 (kState x0 k)

/-- The pieces of the first `k` trips, last first. -/
def kPieces (x0 : Vec F S1x4x6000 .f32) : ℕ → List (View.Piece (Elt F) S1x1000x4 .f32)
  | 0 => []
  | k + 1 => if h : k < k0_t1_loop.trips then
      ⟨Rect.unit (s := S1x1000x4) (k0_off1 ⟨k, h⟩) S1x1x4.size (k0_off1_inb ⟨k, h⟩), kRowAt x0 k⟩ :: kPieces x0 k
    else kPieces x0 k

theorem st_eq (𝒱 : Variants) (c : Dev nD) (bd : Option 𝒱.V) (i : grid0.Coords) (arg1 : Memref sig .tc .vmem S1x4x6000 .f32)
    (harg1 : arg1.IsWhole) (arg2 : Memref sig .tc .vmem S1x1x6000 .f32) (harg2 : arg2.IsWhole)
    (arg3 : Memref sig .tc .vmem S1x1000x4 .f32) (harg3 : arg3.IsWhole) (x0 : Vec F S1x4x6000 .f32) (k : ℕ) (hk : k ≤ k0_t1_loop.trips) :
    st_k0_t1 𝒱 c bd i arg1 harg1 arg2 harg2 arg3 harg3 (k0_pay33 x0) (k0_pay34 x0) (k0_pay35 x0) (Scalar.ofBits .f32 0x3F800000#32)
      (k0_pay36 x0) lanes6000 lanes4 (k0_pay4 (F := F)) k = (kState x0 k, kPieces x0 k) := by
  induction k with
  | zero => rfl
  | succ k ih =>
    have h : k < k0_t1_loop.trips := hk
    have e := st_k0_t1_succ 𝒱 c bd i arg1 harg1 arg2 harg2 arg3 harg3 (k0_pay33 x0) (k0_pay34 x0) (k0_pay35 x0)
      (Scalar.ofBits .f32 0x3F800000#32) (k0_pay36 x0) lanes6000 lanes4 (k0_pay4 (F := F)) ⟨k, h⟩
    rw [tripR_eq, tripL_eq] at e
    simp only [ih h.le] at e
    rw [e]
    refine Prod.ext rfl ?_
    show _ = kPieces x0 (k + 1)
    rw [kPieces, dif_pos h]
    rfl

/-- What the body leaves in the output block: the rows, over a block of zeros. -/
theorem out_eq (c : Dev nD) (i : grid0.Coords) (arg1 : Memref sig .tc .vmem S1x4x6000 .f32)
    (harg1 : arg1.IsWhole) (arg2 : Memref sig .tc .vmem S1x1x6000 .f32) (harg2 : arg2.IsWhole)
    (arg3 : Memref sig .tc .vmem S1x1000x4 .f32) (harg3 : arg3.IsWhole) (x0 : Vec F S1x4x6000 .f32) (x1 : Vec F S1x1x6000 .f32) :
    (kernelRun0_A c i arg1 harg1 arg2 harg2 arg3 harg3 x0 x1).1
      = kPieces x0 k0_t1_loop.trips ++
        [⟨Rect.unit (s := S1x1000x4) ![0, 0, 0] S1x1000x4.size inb_S1x1000x4_S1x1000x4_0_0_0, k0_pay3⟩] := by
  unfold kernelRun0_A
  show _ ++ _ = _
  unfold kernelRun0_A.sl.r kernelRun0_A.sl.r_1 kernelRun0_A.sl.r_2 kernelRun0_A.sl.r_3 kernelRun0_A.sl.cst_12 kernelRun0_A.sl.H2_1
  have hload : View.readAt (Elt F) arg1.view (Rect.unit ![0, 0, 0] S1x4x6000.size inb_S1x4x6000_S1x4x6000_0_0_0).toLoadRect
      (harg1.unread x0) = x0 := by
    funext x
    rw [harg1.readAt_unread]
    refine congrArg x0 (funext fun a => Fin.ext ?_)
    fin_cases a <;> simp [LoadRect.idx, Rect.toLoadRect, Rect.unit]
  rw [hload]
  exact congrArg (fun p => p.2 ++ _) (st_eq Variants.none c none i arg1 harg1 arg2 harg2 arg3 harg3 x0 k0_t1_loop.trips le_rfl)

theorem trips_eq : k0_t1_loop.trips = 1000 := by decide +kernel

theorem off1_row (k : Fin k0_t1_loop.trips) : k0_off1 k 1 = k.val := by
  have r : k.val < 1000 := Nat.lt_of_lt_of_le k.isLt k0_t1_abs.2.1
  unfold k0_off1
  simp [Scalar.indexCast, Scf.iv]
  omega

/-- Row `r` of what the first `k` pieces leave is trip `r`'s row, or what was there before. -/
theorem read_pieces {κ : Kind} {sp : Space} (v : View sig κ sp S1x1000x4 .f32) (f : v.ty.Contents (Elt F)) (x0 : Vec F S1x4x6000 .f32)
    (y : S1x1000x4.Idx) (L : List (View.Piece (Elt F) S1x1000x4 .f32)) (k : ℕ) (hk : k ≤ k0_t1_loop.trips) :
    v.read (Elt F) (v.writes (Elt F) f (kPieces x0 k ++ L)) y
      = if (y 1).val < k then kRowAt x0 (y 1).val (ix3 0 0 (y 2))
        else v.read (Elt F) (v.writes (Elt F) f L) y := by
  induction k with
  | zero => rfl
  | succ k ih =>
    have h : k < k0_t1_loop.trips := hk
    rw [kPieces, dif_pos h, List.cons_append]
    by_cases e : (y 1).val = k
    · rw [if_pos (by omega)]
      rw [View.read_writes_cons_hit_of_coords v f _ _ _ (ix3 0 0 (y 2))]
      · exact (congrArg (fun n => kRowAt x0 n (ix3 0 0 (y 2))) e).symm
      · intro a
        fin_cases a
        · have h0 : (y 0).val < 1 := (y 0).isLt
          show (y 0).val = k0_off1 ⟨k, h⟩ 0 + 1 * 0
          rw [show k0_off1 ⟨k, h⟩ 0 = 0 from rfl]
          omega
        · show (y 1).val = k0_off1 ⟨k, h⟩ 1 + 1 * 0
          rw [off1_row]
          exact e
        · show (y 2).val = k0_off1 ⟨k, h⟩ 2 + 1 * (y 2).val
          rw [show k0_off1 ⟨k, h⟩ 2 = 0 from rfl]
          omega
    · rw [View.read_writes_cons_miss_of_axis v f _ _ y 1 k 1 (off1_row ⟨k, h⟩) rfl rfl (by omega), ih h.le]
      by_cases e' : (y 1).val < k
      · rw [if_pos e', if_pos (by omega)]
      · rw [if_neg e', if_neg (by omega)]

/-- What the body leaves in the output block, at an element: the row of that number. -/
theorem out_apply (c : Dev nD) (i : grid0.Coords) (arg1 : Memref sig .tc .vmem S1x4x6000 .f32)
    (harg1 : arg1.IsWhole) (arg2 : Memref sig .tc .vmem S1x1x6000 .f32) (harg2 : arg2.IsWhole)
    (arg3 : Memref sig .tc .vmem S1x1000x4 .f32) (harg3 : arg3.IsWhole) (x0 : Vec F S1x4x6000 .f32) (x1 : Vec F S1x1x6000 .f32)
    (y : S1x1000x4.Idx) :
    out0_A_2 c i arg1 harg1 arg2 harg2 arg3 harg3 x0 x1 y
      = kRowAt x0 (y 1).val (ix3 0 0 (y 2)) := by
  unfold out0_A_2
  rw [out_eq, read_pieces _ _ _ _ _ _ le_rfl, if_pos]
  have := (y 1).isLt
  rw [trips_eq]
  exact this

end Cert.Proof

end
-- ==== Proof.Model.lean ====
/- Greedy suppression of one image's boxes, over the extended reals: the state is which boxes are still available; a step takes the
   first of them, and removes it and the boxes that overlap it too much. -/
module

public import Idealize.ShloMosaic.Lib.Pointwise

@[expose] public section

noncomputable section

namespace Cert.Proof

open Idealize.ShloMosaic

/-- Some box is available. -/
def live (a : Fin 6000 → Bool) : Bool := decide (∃ i, a i = true)

/-- The first available box, box 0 where none is. -/
def first (a : Fin 6000 → Bool) : Fin 6000 :=
  if h : (Finset.univ.filter fun i => a i = true).Nonempty then (Finset.univ.filter fun i => a i = true).min' h else 0

theorem live_iff (a : Fin 6000 → Bool) : live a = true ↔ ∃ i, a i = true := by simp [live]

theorem first_of_not_live (a : Fin 6000 → Bool) (h : live a = false) : first a = 0 := by
  unfold first
  rw [dif_neg]
  rintro ⟨i, hi⟩
  have : live a = true := (live_iff a).mpr ⟨i, by simpa using hi⟩
  rw [h] at this
  exact absurd this (by decide)

theorem first_mem (a : Fin 6000 → Bool) (h : live a = true) : a (first a) = true := by
  obtain ⟨i, hi⟩ := (live_iff a).mp h
  have hne : (Finset.univ.filter fun i => a i = true).Nonempty := ⟨i, by simpa using hi⟩
  unfold first
  rw [dif_pos hne]
  simpa using Finset.min'_mem _ hne

theorem first_le (a : Fin 6000 → Bool) (i : Fin 6000) (hi : a i = true) : first a ≤ i := by
  have hne : (Finset.univ.filter fun i => a i = true).Nonempty := ⟨i, by simpa using hi⟩
  unfold first
  rw [dif_pos hne]
  exact Finset.min'_le _ _ (by simpa using hi)

/-- An available box with none before it is the first. -/
theorem first_eq (a : Fin 6000 → Bool) (i : Fin 6000) (hi : a i = true) (hlt : ∀ j, j < i → a j = false) : first a = i := by
  have h1 := first_le a i hi
  rcases h1.lt_or_eq with h | h
  · have := first_mem a ((live_iff a).mpr ⟨i, hi⟩)
    rw [hlt _ h] at this
    exact absurd this (by decide)
  · exact h

/-- The area of box `i`, of coordinates y1, x1, y2, x2. -/
def area (b : Fin 4 → Fin 6000 → EReal) (i : Fin 6000) : EReal := (b 2 i - b 0 i) * (b 3 i - b 1 i)

/-- The area shared by boxes `i` and `j`. -/
def shared (b : Fin 4 → Fin 6000 → EReal) (i j : Fin 6000) : EReal :=
  max (min (b 2 i) (b 2 j) - max (b 0 i) (b 0 j)) 0 * max (min (b 3 i) (b 3 j) - max (b 1 i) (b 1 j)) 0

/-- Boxes `i` and `j` overlap by more than the threshold. -/
def tooClose (b : Fin 4 → Fin 6000 → EReal) (i j : Fin 6000) : Bool :=
  decide (Ideal.ofBits .f32 0x3F333333#32
    < Ideal.div (shared b i j) (area b i + area b j - shared b i j + Ideal.ofBits .f32 0x3089705F#32))

/-- The boxes available after a step. -/
def step (b : Fin 4 → Fin 6000 → EReal) (a : Fin 6000 → Bool) : Fin 6000 → Bool :=
  fun j => a j && !((live a && tooClose b (first a) j) || decide (j = first a))

/-- The boxes available before step `k`. -/
def avail (b : Fin 4 → Fin 6000 → EReal) : ℕ → Fin 6000 → Bool
  | 0 => fun _ => true
  | k + 1 => step b (avail b k)

/-- The box that a step selects, zeros where none is available. -/
def chosen (b : Fin 4 → Fin 6000 → EReal) (a : Fin 6000 → Bool) (q : Fin 4) : EReal := if live a then b q (first a) else 0

/-- A coordinate kept in the unit interval. -/
def clip (v : EReal) : EReal := min 1 (max 0 v)

/-- A decoded box's extent along one axis, from the anchor's coordinates `p` and `r` there. -/
def extent (g : Fin 4 → EReal) (p r : Fin 4) : EReal := (g r - g p) * Ideal.exp (g r)

/-- A decoded box's lower coordinate along one axis. -/
def lower (g : Fin 4 → EReal) (p r : Fin 4) : EReal :=
  g p + Ideal.ofBits .f32 0x3F000000#32 * (g r - g p) + g p * (g r - g p) - Ideal.ofBits .f32 0x3F000000#32 * extent g p r

/-- The decoded, clipped box of an anchor. -/
def box (g : Fin 4 → EReal) : Fin 4 → EReal
  | 0 => clip (lower g 0 2)
  | 1 => clip (lower g 1 3)
  | 2 => clip (lower g 0 2 + extent g 0 2)
  | 3 => clip (lower g 1 3 + extent g 1 3)

/-- The decoded boxes of image `p`. -/
def boxesOf (g : (⟨3, ![4, 6000, 4]⟩ : Shape).Idx → EReal) (p : Fin 4) : Fin 4 → Fin 6000 → EReal :=
  fun q i => box (fun r => g (ix3 p i r)) q

/-- The boxes selected for each image, in the order of their selection. -/
def selected (g : (⟨3, ![4, 6000, 4]⟩ : Shape).Idx → EReal) : (⟨3, ![4, 1000, 4]⟩ : Shape).Idx → EReal :=
  fun y => chosen (boxesOf g (y 0)) (avail (boxesOf g (y 0)) (y 1).val) (y 2)

end Cert.Proof

end
-- ==== Proof.KernelStep.lean ====
/- One trip of the kernel's loop is one step of the greedy suppression. -/
module

public import proofs.«01_k».proof.Proof.Model
public import proofs.«01_k».proof.Proof.Trip
public import Idealize.ShloMosaic.Lib.SortNet.Extract

@[expose] public section

set_option maxRecDepth 16384

noncomputable section

namespace Cert.Proof

open Idealize.ShloMosaic Idealize.ShloMosaic.TcCoe Cert.KernelIdeal Cert.KernelIdeal.Gen

/-- The availability vector as the kernel carries it: 1 for an available box, 0 for another. -/
def ind (a : Fin 6000 → Bool) : FVec Ideal S1x6000 .f32 := fun j => if a (j 1) then (1 : EReal) else 0

/-- A least word. -/
theorem fold_minsi {ι : Type} [Fintype ι] (f : ι → BitVec 32) (v : BitVec 32) (hlow : ∀ x, v.toInt ≤ (f x).toInt)
    (hex : ∃ x, f x = v) : Finset.fold IntOp.minsi (2147483647#32) f Finset.univ = v := by
  have e : (Finset.fold IntOp.minsi (2147483647#32) f Finset.univ).toInt
      = Finset.fold min (2147483647#32).toInt (fun x => (f x).toInt) Finset.univ :=
    (Finset.fold_hom (op := IntOp.minsi) (op' := min) (m := BitVec.toInt) fun a b => SortNet.toInt_minsi a b).symm
  apply BitVec.eq_of_toInt_eq
  rw [e]
  obtain ⟨x, hx⟩ := hex
  refine le_antisymm ?_ ?_
  · exact (Finset.fold_min_le _).mpr (Or.inr ⟨x, Finset.mem_univ x, by rw [hx]⟩)
  · refine (Finset.le_fold_min _).mpr ⟨?_, fun y _ => hlow y⟩
    have := BitVec.toInt_lt (x := v)
    have e : (2147483647#32).toInt = 2147483647 := by decide
    rw [e]
    norm_num at this
    omega

theorem half_eq : Ideal.ofBits .f32 0x3F000000#32 = ((1 / 2 : ℝ) : EReal) := by
  simp [Ideal.ofBits, Ideal.ieee, -EReal.coe_mul]
  norm_num

theorem half_lt_one : Ideal.ofBits .f32 0x3F000000#32 < (1 : EReal) := by
  rw [half_eq]
  exact_mod_cast (by norm_num : (1 / 2 : ℝ) < 1)

theorem half_not_lt_zero : ¬ Ideal.ofBits .f32 0x3F000000#32 < (0 : EReal) := by
  rw [half_eq]
  exact_mod_cast (by norm_num : ¬ (1 / 2 : ℝ) < 0)

theorem ofNat_toInt (n : ℕ) (h : n ≤ 6000) : (BitVec.ofNat 32 n).toInt = n := by
  rw [BitVec.toInt_eq_toNat_of_lt (by rw [BitVec.toNat_ofNat]; omega), BitVec.toNat_ofNat]
  omega

theorem least_eq (a : Fin 6000 → Bool) :
    extractAt ![0, 0, 0] (k0_pay6 lanes6000 (ind a)) inpos_S1x1x1_p0_0_0
      = if live a then BitVec.ofNat 32 (first a).val else 6000#32 := by
  pointwise [k0_pay6, lanes6000]
  have hone : ∀ x : Fin 6000, (Ideal.ofBits FTy.f32 0x3F000000#32 < ind a (ix2 0 x)) ↔ a x = true := fun x => by
    show (_ < if a x = true then (1 : EReal) else 0) ↔ _
    by_cases h : a x = true
    · simp [h, half_lt_one]
    · simp [h, half_not_lt_zero]
  simp only [hone]
  by_cases hl : live a = true
  · rw [if_pos hl]
    refine fold_minsi _ _ (fun x => ?_) ⟨(0, first a), by simp [first_mem a hl]⟩
    rw [ofNat_toInt _ (first a).isLt.le]
    by_cases h : a x.2 = true
    · rw [if_pos h, ofNat_toInt _ x.2.isLt.le]
      exact_mod_cast first_le a x.2 h
    · rw [if_neg h]
      have := (first a).isLt
      have e : (6000#32).toInt = 6000 := by decide
      rw [e]; omega
  · rw [if_neg hl]
    have h : ∀ x, ¬ a x = true := fun x hx => hl ((live_iff a).mpr ⟨x, hx⟩)
    simp only [h, if_false]
    exact fold_minsi _ _ (fun x => le_rfl) ⟨(0, 0), rfl⟩

theorem kValid_eq (a : Fin 6000 → Bool) : kValid lanes6000 (ind a) = BitVec.ofBool (live a) := by
  unfold kValid
  rw [least_eq]
  by_cases hl : live a = true
  · rw [if_pos hl, hl]
    show BitVec.ofBool (BitVec.slt _ _) = _
    congr 1
    rw [BitVec.slt, decide_eq_true_eq, ofNat_toInt _ (first a).isLt.le]
    have := (first a).isLt
    have e : (6000#32).toInt = 6000 := by decide
    rw [e]; omega
  · rw [if_neg hl, Bool.not_eq_true _ |>.mp hl]
    rfl

theorem pay7_eq (A : FVec Ideal S1x6000 .f32) : k0_pay7 lanes6000 A
    = cmpi .eq lanes6000 (broadcast S1x6000 (Scalar.select (kValid lanes6000 A)
        (extractAt ![0, 0, 0] (k0_pay6 lanes6000 A) inpos_S1x1x1_p0_0_0) 0#32)) := by
  unfold k0_pay7 kValid
  rfl

theorem lanes6000_apply (j : Fin 6000) : lanes6000 (ix2 0 j) = BitVec.ofNat 32 j.val := by
  pointwise [lanes6000]

theorem sel_eq (a : Fin 6000 → Bool) (j : Fin 6000) :
    k0_pay7 lanes6000 (ind a) (ix2 0 j) = BitVec.ofBool (decide (j = first a)) := by
  have hidx : Scalar.select (BitVec.ofBool (live a)) (if live a then BitVec.ofNat 32 (first a).val else 6000#32) 0#32
      = BitVec.ofNat 32 (first a).val := by
    by_cases hl : live a = true
    · rw [hl]; rfl
    · have hl := (Bool.not_eq_true _).mp hl
      rw [hl, first_of_not_live a hl]; rfl
  rw [pay7_eq, kValid_eq, least_eq, hidx]
  show IntOp.cmpi .eq (lanes6000 (ix2 0 j)) (BitVec.ofNat 32 (first a).val) = _
  rw [lanes6000_apply]
  show BitVec.ofBool _ = _
  congr 1
  rw [Bool.eq_iff_iff, beq_iff_eq, decide_eq_true_eq]
  constructor
  · intro h
    have := congrArg BitVec.toInt h
    rw [ofNat_toInt _ j.isLt.le, ofNat_toInt _ (first a).isLt.le] at this
    exact Fin.ext (by exact_mod_cast this)
  · rintro rfl; rfl

theorem select_ofBool {α : Type} (p : Bool) (x y : α) : Scalar.select (BitVec.ofBool p) x y = if p then x else y := by
  cases p <;> rfl

/-- A coordinate summed under the selection mask is the selected box's. -/
theorem picked (a : Fin 6000 → Bool) (Y : FVec Ideal S1x6000 .f32) :
    ∑ x : Fin 6000, Scalar.select (k0_pay7 lanes6000 (ind a) (ix2 0 x)) (Y (ix2 0 x)) (0 : EReal) = Y (ix2 0 (first a)) := by
  simp only [sel_eq, select_ofBool, decide_eq_true_eq]
  rw [Finset.sum_ite_eq' Finset.univ (first a) fun x => Y (ix2 0 x)]
  simp

theorem pay8_eq (a : Fin 6000 → Bool) (Y : FVec Ideal S1x6000 .f32) : k0_pay8 Y lanes6000 (ind a) = Y (ix2 0 (first a)) := by
  rw [← picked a Y]
  pointwise [k0_pay8]
  simp
theorem pay9_eq (a : Fin 6000 → Bool) (Y : FVec Ideal S1x6000 .f32) : k0_pay9 Y lanes6000 (ind a) = Y (ix2 0 (first a)) := pay8_eq a Y
theorem pay10_eq (a : Fin 6000 → Bool) (Y : FVec Ideal S1x6000 .f32) : k0_pay10 Y lanes6000 (ind a) = Y (ix2 0 (first a)) := pay8_eq a Y
theorem pay11_eq (a : Fin 6000 → Bool) (Y : FVec Ideal S1x6000 .f32) : k0_pay11 Y lanes6000 (ind a) = Y (ix2 0 (first a)) := pay8_eq a Y

/-- The boxes' coordinates as the kernel holds them, y1, x1, y2 and x2 not yet cut at 1. -/
def kBoxes (Y X Y' X' : FVec Ideal S1x6000 .f32) (q : Fin 4) (i : Fin 6000) : EReal :=
  match q with
  | 0 => Y (ix2 0 i)
  | 1 => X (ix2 0 i)
  | 2 => Y' (ix2 0 i)
  | 3 => k0_pay1 (F := Ideal) (1 : EReal) X' (ix2 0 i)

theorem one_word : (FloatOps.ofBits (F := Ideal) .f32 0x3F800000#32) = (1 : EReal) := Ideal.ofBits_one_f32

theorem kNext_eq (a : Fin 6000 → Bool) (Y X Y' X' : FVec Ideal S1x6000 .f32) :
    kNext Y X Y' (Scalar.ofBits .f32 0x3F800000#32) X' lanes6000 (ind a) = ind (step (kBoxes Y X Y' X') a) := by
  funext j
  obtain ⟨j0, j1, rfl⟩ : ∃ (p : Fin 1) (q : Fin 6000), j = ix2 p q := ⟨j 0, j 1, eq_ix2 j⟩
  obtain rfl : j0 = 0 := Subsingleton.elim _ _
  show _ = if step (kBoxes Y X Y' X') a j1 = true then (1 : EReal) else 0
  unfold kNext
  rw [one_word]
  obtain ⟨X1, hX⟩ : ∃ X1, k0_pay1 (1 : EReal) X' = X1 := ⟨_, rfl⟩
  pointwise [k0_pay17, k0_pay13, k0_pay14, k0_pay15, k0_pay16, k0_pay12, k0_pay2]
  simp only [hX, pay8_eq, pay9_eq, pay10_eq, pay11_eq, kValid_eq, sel_eq]
  have h0 : ∀ i, kBoxes Y X Y' X' 0 i = Y (ix2 0 i) := fun i => rfl
  have h1 : ∀ i, kBoxes Y X Y' X' 1 i = X (ix2 0 i) := fun i => rfl
  have h2 : ∀ i, kBoxes Y X Y' X' 2 i = Y' (ix2 0 i) := fun i => rfl
  have h3 : ∀ i, kBoxes Y X Y' X' 3 i = X1 (ix2 0 i) := fun i => by rw [← hX]; rfl
  unfold step tooClose area shared
  simp only [h0, h1, h2, h3]
  generalize Ideal.div _ _ = d
  generalize decide (Ideal.ofBits .f32 0x3F333333#32 < d) = p
  have hi : ind a (ix2 0 j1) = if a j1 = true then (1 : EReal) else 0 := rfl
  rw [hi]
  generalize decide (j1 = first a) = q
  cases live a <;> cases p <;> cases q <;> cases a j1 <;> simp [Scalar.select, IntOp.andi, IntOp.ori]

theorem kRow_eq (a : Fin 6000 → Bool) (Y X Y' X' : FVec Ideal S1x6000 .f32) (q : Fin 4) :
    kRow Y X Y' (Scalar.ofBits .f32 0x3F800000#32) X' lanes6000 lanes4 (ind a) (ix3 0 0 q) = chosen (kBoxes Y X Y' X') a q := by
  unfold kRow chosen
  rw [one_word]
  obtain ⟨X1, hX⟩ : ∃ X1, k0_pay1 (1 : EReal) X' = X1 := ⟨_, rfl⟩
  pointwise [k0_pay5, k0_pay18, k0_pay19, k0_pay20, k0_pay21, lanes4]
  simp only [hX, pay8_eq, pay9_eq, pay10_eq, pay11_eq, kValid_eq, select_ofBool]
  have h3 : ∀ i, kBoxes Y X Y' X' 3 i = X1 (ix2 0 i) := fun i => by rw [← hX]; rfl
  by_cases hl : live a = true
  · simp only [hl, if_true]
    fin_cases q
    · simp [kBoxes, Scalar.select, IntOp.cmpi]
    · simp [kBoxes, Scalar.select, IntOp.cmpi]
    · simp [kBoxes, Scalar.select, IntOp.cmpi]
    · simp [h3, Scalar.select, IntOp.cmpi]
  · simp only [hl]
    rfl

end Cert.Proof

end
-- ==== Proof.KernelValue.lean ====
/- The kernel's output array: each image's rows are the boxes selected in turn, from the anchors its host part hands to the launch. -/
module

public import proofs.«01_k».proof.Proof.Trip
public import proofs.«01_k».proof.Proof.KernelStep
public import Idealize.ShloMosaic.Lib.Pipeline.ValueKit

@[expose] public section

noncomputable section

namespace Cert.Proof

open Idealize.ShloMosaic Idealize.ShloMosaic.TcCoe Cert.KernelIdeal Cert.KernelIdeal.Gen

theorem kBoxes_eq (x0 : Vec Ideal S1x4x6000 .f32) :
    kBoxes (k0_pay33 x0) (k0_pay34 x0) (k0_pay35 x0) (k0_pay36 x0) = fun q i => box (fun r => x0 (ix3 0 r i)) q := by
  funext q i
  fin_cases q
  · show k0_pay33 x0 (ix2 0 i) = _
    pointwise [k0_pay33, k0_pay31, k0_pay29, k0_pay27, k0_pay23, k0_pay25, k0_pay22]
    rfl
  · show k0_pay34 x0 (ix2 0 i) = _
    pointwise [k0_pay34, k0_pay32, k0_pay30, k0_pay28, k0_pay24, k0_pay26, k0_pay22]
    rfl
  · show k0_pay35 x0 (ix2 0 i) = _
    pointwise [k0_pay35, k0_pay31, k0_pay29, k0_pay27, k0_pay23, k0_pay25, k0_pay22]
    rfl
  · show k0_pay1 (1 : EReal) (k0_pay36 x0) (ix2 0 i) = _
    pointwise [k0_pay1, k0_pay36, k0_pay32, k0_pay30, k0_pay28, k0_pay24, k0_pay26, k0_pay22]
    rfl

theorem kState_eq (x0 : Vec Ideal S1x4x6000 .f32) (k : ℕ) :
    kState x0 k = ind (avail (fun q i => box (fun r => x0 (ix3 0 r i)) q) k) := by
  rw [← kBoxes_eq]
  induction k with
  | zero =>
    funext j
    show FloatOps.ofBits (F := Ideal) .f32 0x3F800000#32 = ind (fun _ => true) j
    exact one_word
  | succ k ih =>
    show kNext _ _ _ _ _ _ (kState x0 k) = _
    rw [ih, kNext_eq]
    rfl

theorem kRowAt_eq (x0 : Vec Ideal S1x4x6000 .f32) (k : ℕ) (q : Fin 4) :
    kRowAt x0 k (ix3 0 0 q) = chosen (fun q i => box (fun r => x0 (ix3 0 r i)) q)
      (avail (fun q i => box (fun r => x0 (ix3 0 r i)) q) k) q := by
  unfold kRowAt
  rw [kState_eq, kRow_eq, kBoxes_eq]

variable (m : (ℓ : Loc nD τ sig) → Buf (Elt Ideal) ℓ)

theorem win_index : ∀ t : Fin cfg0.N, win0_0.index t = ![t.val, 0, 0] ∧ win0_2.index t = ![t.val, 0, 0] := by decide +kernel

theorem place_in (t : Fin cfg0.N) (y : S1x4x6000.Idx) :
    (win0_0.rect t).emb y = (ix3 ⟨t.val, t.isLt⟩ (y 1) (y 2) : S4x4x6000.Idx) := by
  have h := fun a => Pipeline.Window.rect_emb_val win0_0 t y a
  rw [(win_index t).1] at h
  have h0 : (y 0).val < 1 := (y 0).isLt
  funext a
  refine Fin.ext ?_
  fin_cases a
  · refine (h 0).trans ?_
    show t.val * 1 + (y 0).val = t.val
    omega
  · refine (h 1).trans ?_
    show 0 * 4 + (y 1).val = (y 1).val
    omega
  · refine (h 2).trans ?_
    show 0 * 6000 + (y 2).val = (y 2).val
    omega

theorem place_out (t : Fin cfg0.N) (y : S1x1000x4.Idx) :
    (win0_2.rect t).emb y = (ix3 ⟨t.val, t.isLt⟩ (y 1) (y 2) : S4x1000x4.Idx) := by
  have h := fun a => Pipeline.Window.rect_emb_val win0_2 t y a
  rw [(win_index t).2] at h
  have h0 : (y 0).val < 1 := (y 0).isLt
  funext a
  refine Fin.ext ?_
  fin_cases a
  · refine (h 0).trans ?_
    show t.val * 1 + (y 0).val = t.val
    omega
  · refine (h 1).trans ?_
    show 0 * 1000 + (y 1).val = (y 1).val
    omega
  · refine (h 2).trans ?_
    show 0 * 4 + (y 2).val = (y 2).val
    omega

/-- The output array, from the transposed anchors at the launch. -/
theorem arr_eq (c : Dev nD) (g : S4x6000x4.Idx → EReal)
    (hg : ∀ p r i, (V m c main_call0_v15 : S4x4x6000.Idx → EReal) (ix3 p r i) = g (ix3 p i r)) :
    (dats m 0 c).arrAt 2 cfg0.N = selected g := by
  refine (dats m 0 c).arrAt_eq_of_covers 2 _ (by decide +kernel) fun t hf y => ?_
  blk_simp
  rw [after0_2]
  unfold outsAt0
  rw [out_apply]
  have hx : ∀ r i, iblk m c 0 t (ix3 0 r i) = g (ix3 ⟨t.val, t.isLt⟩ i r) := fun r i => by
    rw [← hg]
    exact congrArg (V m c main_call0_v15 : S4x4x6000.Idx → EReal) (place_in t (ix3 0 r i))
  refine (kRowAt_eq _ _ _).trans ?_
  simp only [hx]
  exact (congrArg (selected g) (place_out t y)).symm

end Cert.Proof

end
-- ==== Proof.TopK.lean ====
/- Facts about the descending stable sort that both programs' top-k selections are: equal keys keep the order of their
   positions, so the sort is one under a strict total order, and a top-k taken in two levels (each chunk's top-k, then the
   top-k of the pooled survivors) selects the same positions as one taken at once. -/
module

public import Idealize.ShloMosaic.Lib.SortPrefix

@[expose] public section

namespace Cert.Proof

open Idealize.ShloMosaic

variable {κ : Type} [LinearOrder κ]

/-- Position `a`'s key is larger than position `b`'s. -/
def larger {n : ℕ} (key : Fin n → κ) (a b : Fin n) : Bool := decide (key b < key a)

/-- Position `a`'s key is larger than `b`'s, or they are equal and `a` is the earlier position. -/
def ahead {n : ℕ} (key : Fin n → κ) (a b : Fin n) : Bool :=
  decide (key b < key a) || (decide (key a = key b) && decide (a < b))

theorem ahead_iff {n : ℕ} (key : Fin n → κ) (a b : Fin n) :
    ahead key a b = true ↔ key b < key a ∨ (key a = key b ∧ a < b) := by
  simp [ahead]

/-- `ahead` is a strict total order on the positions. -/
theorem ahead_total {n : ℕ} (key : Fin n → κ) : StrictTotalBefore (ahead key) :=
  StrictTotalBefore.of_key_then_position (fun a b : κ => decide (b < a)) key (fun a => by simp)
    (fun a b c hab hbc => by simp only [decide_eq_true_eq] at *; exact hbc.trans hab)
    (fun a b => by
      rcases lt_trichotomy a b with h | h | h
      · exact Or.inr (Or.inr (by simpa using h))
      · exact Or.inr (Or.inl h)
      · exact Or.inl (by simpa using h))

/-- The insertion sort of a list of increasing positions breaks ties by position. -/
theorem stableSort_larger {n : ℕ} (key : Fin n → κ) (l : List (Fin n)) (hl : l.Pairwise (· < ·)) :
    stableSort (larger key) l = stableSort (ahead key) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [larger, ahead, not_lt.mpr hab.le]

/-- So the stable descending sort is the sort under `ahead`. -/
theorem sortedFrom_larger {n : ℕ} (key : Fin n → κ) : sortedFrom (larger key) = sortedFrom (ahead key) := by
  have h : sortPositions n (larger key) = sortPositions n (ahead key) :=
    stableSort_larger key _ (List.pairwise_lt_finRange n)
  funext k
  have get : ∀ l l' : List (Fin n), l = l' → ∀ (e : n = l.length) (e' : n = l'.length), l.get (k.cast e) = l'.get (k.cast e') := by
    rintro l _ rfl _ _; rfl
  exact get _ _ h _ _

/-- Under a strict total order the sorted positions are in order. -/
theorem sortedFrom_ordered {n : ℕ} {B : Fin n → Fin n → Bool} (hB : StrictTotalBefore B) (i j : Fin n) :
    B (sortedFrom B i) (sortedFrom B j) = true ↔ i < j := by
  have no := sortedFrom_noInversion B B (fun a b h => hB.asymm a b h) (fun _ _ h => h) hB.negTrans
  constructor
  · intro h
    rcases lt_trichotomy i j with hl | he | hg
    · exact hl
    · rw [he, hB.irrefl] at h; exact absurd h (by decide)
    · rw [no j i hg] at h; exact absurd h (by decide)
  · intro h
    rcases hB.total _ _ fun e => h.ne (sortedFrom_injective B e) with h' | h'
    · exact h'
    · rw [no i j h] at h'; exact absurd h' (by decide)

/-- The keys of a descending sort descend. -/
theorem sortedFrom_antitone {n : ℕ} (key : Fin n → κ) (i j : Fin n) (hij : i ≤ j) :
    key (sortedFrom (larger key) j) ≤ key (sortedFrom (larger key) i) := by
  rw [sortedFrom_larger]
  rcases hij.eq_or_lt with h | h
  · rw [h]
  · rcases (ahead_iff _ _ _).mp ((sortedFrom_ordered (ahead_total key) i j).mpr h) with h' | h'
    · exact h'.le
    · exact h'.1.ge

/-- Sorting what is sorted already moves nothing. -/
theorem sortedFrom_of_sorted {n : ℕ} (key : Fin n → κ) (h : ∀ i j, i ≤ j → key j ≤ key i) (i : Fin n) :
    sortedFrom (larger key) i = i := by
  rw [sortedFrom_larger]
  refine (ahead_total key).sortedFrom_eq_of_prefix le_rfl id Function.injective_id (fun i j hij => ?_) (fun i p hp => ?_) i
  · cases e : ahead key (id j) (id i)
    · rfl
    · rcases (ahead_iff _ _ _).mp e with h' | h'
      · exact absurd (h i j hij.le) (not_le.mpr h')
      · exact absurd hij (not_lt.mpr h'.2.le)
  · exact absurd rfl (hp p)

/-- TOP-K IN TWO LEVELS. `C` chunks of `m` keys; each chunk's `k` largest are pooled in the chunks' order, and the `k` largest
    of the pool are taken. Their positions in the whole are those of the `k` largest of the whole. -/
theorem twoLevel {n C m k p : ℕ} (hn : n = C * m) (hp : p = C * k) (hkm : k ≤ m) (hkp : k ≤ p) (hkn : k ≤ n)
    (key : Fin n → κ) (keyc : Fin C → Fin m → κ) (hc : ∀ (c : Fin C) (i : Fin m) (x : Fin n), x.val = c.val * m + i.val → keyc c i = key x)
    (key2 : Fin p → κ)
    (h2 : ∀ (q : Fin p) (c : Fin C) (r : Fin k), q.val = c.val * k + r.val →
      key2 q = keyc c (sortedFrom (larger (keyc c)) (r.castLE hkm)))
    (i : Fin k) (c : Fin C) (r : Fin k) (hq : (sortedFrom (larger key2) (i.castLE hkp)).val = c.val * k + r.val) :
    (sortedFrom (larger key) (i.castLE hkn)).val = c.val * m + (sortedFrom (larger (keyc c)) (r.castLE hkm)).val := by
  have hk : 0 < k := lt_of_le_of_lt (Nat.zero_le _) i.isLt
  have hm : 0 < m := lt_of_lt_of_le hk hkm
  simp only [sortedFrom_larger] at h2 hq ⊢
  -- a pooled position by its chunk and rank
  have split : ∀ q : Fin p, ∃ (c : Fin C) (r : Fin k), q.val = c.val * k + r.val := fun q =>
    ⟨⟨q.val / k, Nat.div_lt_of_lt_mul (lt_of_lt_of_eq q.isLt (hp.trans (Nat.mul_comm C k)))⟩,
      ⟨q.val % k, Nat.mod_lt _ hk⟩, by simpa using (Nat.div_add_mod' q.val k).symm⟩
  have inC : ∀ (c : Fin C) (y : Fin m), c.val * m + y.val < n := fun c y => by
    rw [hn]
    calc c.val * m + y.val < c.val * m + m := by omega
      _ = (c.val + 1) * m := (Nat.succ_mul _ _).symm
      _ ≤ C * m := Nat.mul_le_mul_right m c.isLt
  have inP : ∀ (c : Fin C) (r : Fin k), c.val * k + r.val < p := fun c y => by
    rw [hp]
    calc c.val * k + y.val < c.val * k + k := by omega
      _ = (c.val + 1) * k := (Nat.succ_mul _ _).symm
      _ ≤ C * k := Nat.mul_le_mul_right k c.isLt
  have uniqC : ∀ (c c' : Fin C) (y y' : Fin m), c.val * m + y.val = c'.val * m + y'.val → c = c' ∧ y = y' := fun c c' y y' h => by
    have e1 : c.val = c'.val := by
      have a := Nat.mul_add_div hm c.val y.val
      have b := Nat.mul_add_div hm c'.val y'.val
      rw [Nat.mul_comm m, Nat.div_eq_of_lt y.isLt] at a
      rw [Nat.mul_comm m, Nat.div_eq_of_lt y'.isLt] at b
      rw [h] at a; omega
    refine ⟨Fin.ext e1, Fin.ext ?_⟩
    rw [e1] at h; omega
  have ltP : ∀ (c c' : Fin C) (r r' : Fin k), c.val * k + r.val < c'.val * k + r'.val → c < c' ∨ (c = c' ∧ r < r') := fun c c' r r' h => by
    rcases lt_trichotomy c c' with h' | h' | h'
    · exact Or.inl h'
    · subst h'; exact Or.inr ⟨rfl, by rw [Fin.lt_def]; omega⟩
    · exfalso
      have : (c'.val + 1) * k ≤ c.val * k := Nat.mul_le_mul_right k h'
      have : (c'.val + 1) * k = c'.val * k + k := Nat.succ_mul _ _
      omega
  have ltC : ∀ (c c' : Fin C) (y y' : Fin m), c < c' → c.val * m + y.val < c'.val * m + y'.val := fun c c' y y' h => by
    have : (c.val + 1) * m ≤ c'.val * m := Nat.mul_le_mul_right m h
    have : (c.val + 1) * m = c.val * m + m := Nat.succ_mul _ _
    omega
  -- where the pool's entries sit in the whole
  let at' : Fin C → Fin k → Fin n := fun c r => ⟨c.val * m + (sortedFrom (ahead (keyc c)) (r.castLE hkm)).val, inC _ _⟩
  choose ch rk hsp using split
  let pos : Fin p → Fin n := fun q => at' (ch q) (rk q)
  have uniqP : ∀ (q : Fin p) (c : Fin C) (r : Fin k), q.val = c.val * k + r.val → ch q = c ∧ rk q = r := fun q c r h => by
    have hs := hsp q
    rw [h] at hs
    have e1 : ch q = c := by
      rcases lt_trichotomy (ch q) c with h' | h' | h'
      · have : ((ch q).val + 1) * k ≤ c.val * k := Nat.mul_le_mul_right k h'
        have : ((ch q).val + 1) * k = (ch q).val * k + k := Nat.succ_mul _ _
        have := (rk q).isLt
        omega
      · exact h'
      · have : (c.val + 1) * k ≤ (ch q).val * k := Nat.mul_le_mul_right k h'
        have : (c.val + 1) * k = c.val * k + k := Nat.succ_mul _ _
        omega
    rw [e1] at hs
    exact ⟨e1, Fin.ext (by omega)⟩
  have key2_pos : ∀ q, key2 q = key (pos q) := fun q => by
    rw [h2 q (ch q) (rk q) (hsp q)]
    exact hc _ _ _ rfl
  have keyc_at : ∀ c (y : Fin m), keyc c y = key ⟨c.val * m + y.val, inC c y⟩ := fun c y => hc c y _ rfl
  have chunk_ahead : ∀ c (y y' : Fin m), ahead (keyc c) y y' = true →
      ahead key ⟨c.val * m + y.val, inC c y⟩ ⟨c.val * m + y'.val, inC c y'⟩ = true := fun c y y' h => by
    rw [ahead_iff, keyc_at, keyc_at] at h
    rw [ahead_iff]
    rcases h with h | ⟨h, h'⟩
    · exact Or.inl h
    · refine Or.inr ⟨h, ?_⟩
      rw [Fin.lt_def] at h' ⊢
      simpa using h'
  -- pooled order is the whole's order
  have mono : ∀ q q' : Fin p, ahead key2 q q' = true → ahead key (pos q) (pos q') = true := fun q q' h => by
    rw [ahead_iff, key2_pos, key2_pos] at h
    rcases h with h | ⟨h, hlt⟩
    · exact (ahead_iff _ _ _).mpr (Or.inl h)
    · rw [Fin.lt_def, hsp q, hsp q'] at hlt
      rcases ltP _ _ _ _ hlt with hcc | ⟨hcc, hrr⟩
      · exact (ahead_iff _ _ _).mpr (Or.inr ⟨h, ltC _ _ _ _ hcc⟩)
      · have hr : rk q < rk q' := hrr
        have := chunk_ahead (ch q) _ _ ((sortedFrom_ordered (ahead_total (keyc (ch q))) ((rk q).castLE hkm) ((rk q').castLE hkm)).mpr hr)
        show ahead key (at' (ch q) (rk q)) (at' (ch q') (rk q')) = true
        rw [← hcc]
        exact this
  have B2 := ahead_total key2
  have B1 := ahead_total key
  have inj : Function.Injective pos := fun q q' h => by
    by_contra hne
    rcases B2.total q q' hne with h' | h'
    · have := mono _ _ h'; rw [h, B1.irrefl] at this; exact absurd this (by decide)
    · have := mono _ _ h'; rw [h, B1.irrefl] at this; exact absurd this (by decide)
  let σ : Fin k → Fin p := fun j => sortedFrom (ahead key2) (j.castLE hkp)
  have σinj : Function.Injective σ := fun a b h => by
    have := sortedFrom_injective _ h
    exact Fin.ext (by simpa [Fin.ext_iff] using this)
  have main : ∀ i : Fin k, sortedFrom (ahead key) (i.castLE hkn) = pos (σ i) := by
    refine B1.sortedFrom_eq_of_prefix hkn (fun i => pos (σ i)) (inj.comp σinj) (fun a b hab => ?_) (fun a x hx => ?_)
    · exact B1.asymm _ _ (mono _ _ ((sortedFrom_ordered B2 _ _).mpr hab))
    · cases e : ahead key x (pos (σ a))
      · rfl
      exfalso
      by_cases hxp : ∃ q, pos q = x
      · obtain ⟨q, rfl⟩ := hxp
        obtain ⟨j, rfl⟩ := sortedFrom_surjective (ahead key2) q
        have hj : ¬ j.val < k := fun hjk => hx ⟨j.val, hjk⟩ rfl
        have hlt : a.castLE hkp < j := by rw [Fin.lt_def]; simp; omega
        have := mono _ _ ((sortedFrom_ordered B2 _ _).mpr hlt)
        have := B1.asymm _ _ this
        rw [e] at this
        exact absurd this (by decide)
      · -- a position outside its chunk's list: the whole chunk's list is ahead of it
        obtain ⟨c0, y0, hx0⟩ : ∃ (c0 : Fin C) (y0 : Fin m), x = ⟨c0.val * m + y0.val, inC c0 y0⟩ :=
          ⟨⟨x.val / m, Nat.div_lt_of_lt_mul (lt_of_lt_of_eq x.isLt (hn.trans (Nat.mul_comm C m)))⟩, ⟨x.val % m, Nat.mod_lt _ hm⟩,
            Fin.ext (by simpa using (Nat.div_add_mod' x.val m).symm)⟩
        subst hx0
        obtain ⟨j, hj⟩ := sortedFrom_surjective (ahead (keyc c0)) y0
        have hjk : k ≤ j.val := by
          by_contra hjk
          refine hxp ⟨⟨c0.val * k + j.val, inP c0 ⟨j.val, by omega⟩⟩, ?_⟩
          obtain ⟨e1, e2⟩ := uniqP ⟨c0.val * k + j.val, inP c0 ⟨j.val, by omega⟩⟩ c0 ⟨j.val, by omega⟩ rfl
          show at' _ _ = _
          rw [e1, e2, ← hj]
          rfl
        have all : ∀ r : Fin k, ahead key (at' c0 r) (pos (σ a)) = true := fun r => by
          refine B1.trans _ _ _ ?_ e
          rw [← hj]
          exact chunk_ahead c0 _ _ ((sortedFrom_ordered (ahead_total (keyc c0)) _ _).mpr (by rw [Fin.lt_def]; simp; omega))
        have all2 : ∀ r : Fin k, ∃ j : Fin k, j < a ∧ (σ j).val = c0.val * k + r.val := fun r => by
          obtain ⟨e1, e2⟩ := uniqP ⟨c0.val * k + r.val, inP c0 r⟩ c0 r rfl
          have h1 : ahead key (pos ⟨c0.val * k + r.val, inP c0 r⟩) (pos (σ a)) = true := by
            show ahead key (at' _ _) _ = true
            rw [e1, e2]; exact all r
          obtain ⟨j, hj⟩ := sortedFrom_surjective (ahead key2) ⟨c0.val * k + r.val, inP c0 r⟩
          have hja : j < a.castLE hkp := by
            rcases lt_trichotomy j (a.castLE hkp) with h | h | h
            · exact h
            · rw [← hj, h, B1.irrefl] at h1; exact absurd h1 (by decide)
            · have := B1.asymm _ _ (mono _ _ ((sortedFrom_ordered B2 _ _).mpr h))
              rw [hj, h1] at this; exact absurd this (by decide)
          have hjk : j.val < k := lt_trans hja a.isLt
          exact ⟨⟨j.val, hjk⟩, hja, congrArg Fin.val hj⟩
        choose J hJa hJ using all2
        have Jinj : Function.Injective fun r : Fin k => (⟨(J r).val, hJa r⟩ : Fin a.val) := fun r r' h => by
          have h : J r = J r' := Fin.ext (by simpa using h)
          have a1 := hJ r
          have a2 := hJ r'
          rw [h, a2] at a1
          exact Fin.ext (by omega)
        have := Fintype.card_le_of_injective _ Jinj
        simp only [Fintype.card_fin] at this
        omega
  obtain ⟨e1, e2⟩ := uniqP (σ i) c r hq
  rw [main i]
  show (at' _ _).val = _
  rw [e1, e2]

end Cert.Proof
-- ==== Proof.TopRead.lean ====
/- The host's sort and top-k of the rows of a matrix read at an element, and index words that lie in their range. -/
module

public import proofs.«01_k».proof.Proof.TopK
public import Idealize.ShloMosaic.Lib.Pointwise

@[expose] public section

noncomputable section

namespace Cert.Proof

open Idealize.ShloMosaic

theorem along_row {a n : ℕ} (p : Fin a) (i k : Fin n) :
    (ix2 p i : (⟨2, ![a, n]⟩ : Shape).Idx).along 1 k = ix2 p k := by
  funext d
  fin_cases d <;> rfl

/-- The second results of a row sort: the second operand at the position the sort puts there. -/
theorem sort2_snd {a n : ℕ} {α β : Type} (cmp : α × β → α × β → BitVec 1) (x : (⟨2, ![a, n]⟩ : Shape).Idx → α)
    (y : (⟨2, ![a, n]⟩ : Shape).Idx → β) (p : Fin a) (i : Fin n) (before : Fin n → Fin n → Bool)
    (h : ∀ k k', (cmp (x (ix2 p k), y (ix2 p k)) (x (ix2 p k'), y (ix2 p k')) == 1#1) = before k k') :
    (Host.sort2 ⟨2, ![a, n]⟩ 1 cmp x y).2 (ix2 p i) = y (ix2 p (sortedFrom before i)) := by
  have e : before = fun k k' => cmp (x (ix2 p k), y (ix2 p k)) (x (ix2 p k'), y (ix2 p k')) == 1#1 :=
    funext fun k => funext fun k' => (h k k').symm
  rw [e]
  unfold Host.sort2
  rw [dif_pos (show 1 < 2 by decide)]
  refine congrArg y ((along_row p i _).trans ?_)
  refine congrArg (fun f => (ix2 p (sortedFrom f i) : (⟨2, ![a, n]⟩ : Shape).Idx)) (funext fun k => funext fun k' => ?_)
  exact congrArg₂ (fun u v => cmp (x u, y u) (x v, y v) == 1#1) (along_row p i k) (along_row p i k')

theorem sort2_fst {a n : ℕ} {α β : Type} (cmp : α × β → α × β → BitVec 1) (x : (⟨2, ![a, n]⟩ : Shape).Idx → α)
    (y : (⟨2, ![a, n]⟩ : Shape).Idx → β) (p : Fin a) (i : Fin n) (before : Fin n → Fin n → Bool)
    (h : ∀ k k', (cmp (x (ix2 p k), y (ix2 p k)) (x (ix2 p k'), y (ix2 p k')) == 1#1) = before k k') :
    (Host.sort2 ⟨2, ![a, n]⟩ 1 cmp x y).1 (ix2 p i) = x (ix2 p (sortedFrom before i)) := by
  have e : before = fun k k' => cmp (x (ix2 p k), y (ix2 p k)) (x (ix2 p k'), y (ix2 p k')) == 1#1 :=
    funext fun k => funext fun k' => (h k k').symm
  rw [e]
  unfold Host.sort2
  rw [dif_pos (show 1 < 2 by decide)]
  refine congrArg x ((along_row p i _).trans ?_)
  refine congrArg (fun f => (ix2 p (sortedFrom f i) : (⟨2, ![a, n]⟩ : Shape).Idx)) (funext fun k => funext fun k' => ?_)
  exact congrArg₂ (fun u v => cmp (x u, y u) (x v, y v) == 1#1) (along_row p i k) (along_row p i k')

theorem ofBool_beq (b : Bool) : (BitVec.ofBool b == 1#1) = b := by cases b <;> rfl

/-- The position of row `p`'s `i`-th largest entry, equal entries in the order of their positions. -/
def rank {a n k : ℕ} (hk : k ≤ n) (x : (⟨2, ![a, n]⟩ : Shape).Idx → EReal) (p : Fin a) (i : Fin k) : Fin n :=
  sortedFrom (larger fun j => x (ix2 p j)) (i.castLE hk)

variable {a n k : ℕ} (hk : k ≤ n) (x : (⟨2, ![a, n]⟩ : Shape).Idx → EReal)
  (h : (⟨2, ![a, n]⟩ : Shape).Slices (fun _ => 0) (⟨2, ![a, k]⟩ : Shape)) (p : Fin a) (i : Fin k)

theorem slice_start {α : Type} (y : (⟨2, ![a, n]⟩ : Shape).Idx → α) :
    extractStridedSlice (⟨2, ![a, k]⟩ : Shape) (fun _ => 0) y h (ix2 p i) = y (ix2 p (i.castLE hk)) := by
  refine congrArg y ?_
  funext d
  fin_cases d
  · exact Fin.ext (Nat.zero_add _)
  · exact Fin.ext (Nat.zero_add _)

theorem topK_word : (Host.topK (⟨2, ![a, k]⟩ : Shape) 1 (FloatOps.cmpfTotal (F := Ideal) (φ := .f32) .gt) x h).2 (ix2 p i)
    = BitVec.ofNat 32 (rank hk x p i).val := by
  unfold Host.topK
  dsimp only
  refine (slice_start hk h p i _).trans ((sort2_snd _ _ _ p _ (larger fun j => x (ix2 p j)) fun u v => ?_).trans ?_)
  · show (BitVec.ofBool (decide (x (ix2 p v) < x (ix2 p u))) == 1#1) = _
    rw [ofBool_beq]
    rfl
  · rw [dif_pos (show 1 < 2 by decide)]
    rfl

theorem topK_value : (Host.topK (⟨2, ![a, k]⟩ : Shape) 1 (FloatOps.cmpfTotal (F := Ideal) (φ := .f32) .gt) x h).1 (ix2 p i)
    = x (ix2 p (rank hk x p i)) := by
  unfold Host.topK
  dsimp only
  refine (slice_start hk h p i _).trans (sort2_fst _ _ _ p _ (larger fun j => x (ix2 p j)) fun u v => ?_)
  show (BitVec.ofBool (decide (x (ix2 p v) < x (ix2 p u))) == 1#1) = _
  rw [ofBool_beq]
  rfl

theorem rank_antitone (j : Fin k) (hij : i ≤ j) : x (ix2 p (rank hk x p j)) ≤ x (ix2 p (rank hk x p i)) :=
  sortedFrom_antitone (fun j => x (ix2 p j)) (i.castLE hk) (j.castLE hk) hij

/-- The scores the selection ranks by: the second of each pair. -/
def scores (d : (⟨3, ![4, 261888, 2]⟩ : Shape).Idx → EReal) : (⟨2, ![4, 261888]⟩ : Shape).Idx → EReal := fun y => d (ix3 (y 0) (y 1) 1)

theorem fits : 6000 ≤ 261888 := by decide

/-- The 6000 rows of the highest scores, highest first. -/
def taken (d : (⟨3, ![4, 261888, 2]⟩ : Shape).Idx → EReal) (v : (⟨3, ![4, 261888, 4]⟩ : Shape).Idx → EReal) :
    (⟨3, ![4, 6000, 4]⟩ : Shape).Idx → EReal :=
  fun y => v (ix3 (y 0) (rank fits (scores d) (y 0) (y 1)) (y 2))

/-! Index words -/

theorem word_int {n : ℕ} (hn : n ≤ 2 ^ 31) (i : Fin n) : (BitVec.ofNat 32 i.val).toInt = (i.val : ℤ) := by
  have hi := i.isLt
  rw [BitVec.toInt_eq_toNat_of_lt, BitVec.toNat_ofNat, Nat.mod_eq_of_lt (by omega)]
  rw [BitVec.toNat_ofNat, Nat.mod_eq_of_lt (by omega)]
  omega

/-- The start index of a take at a position in range is that position. -/
theorem wrap_word {n : ℕ} (hn : n ≤ 2 ^ 31) (i : Fin n) (w v : BitVec 32) (hw : w = BitVec.ofNat 32 i.val) :
    Scalar.select (IntOp.cmpi .slt w 0#32) (IntOp.addi w v) w = w := by
  have h : IntOp.cmpi .slt w 0#32 = 0#1 := by
    show BitVec.ofBool (BitVec.slt _ _) = BitVec.ofBool false
    refine congrArg _ (Bool.eq_false_iff.mpr fun e => ?_)
    have e := BitVec.slt_iff_toInt_lt.mp e
    rw [hw, word_int hn] at e
    have e0 : (0#32 : BitVec 32).toInt = 0 := by decide
    omega
  rw [h]
  rfl

theorem inside_word {n : ℕ} (hn : n ≤ 2 ^ 31) (i : Fin n) (v : BitVec 32) (hv : v.toInt + 1 = n) :
    IntOp.andi (IntOp.cmpi .sge (BitVec.ofNat 32 i.val) 0#32) (IntOp.cmpi .sle (BitVec.ofNat 32 i.val) v) = 1#1 := by
  have hi := i.isLt
  have e0 : (0#32 : BitVec 32).toInt = 0 := by decide
  have h : IntOp.cmpi .sge (BitVec.ofNat 32 i.val) 0#32 = 1#1 := by
    show BitVec.ofBool (BitVec.sle _ _) = BitVec.ofBool true
    refine congrArg _ (BitVec.sle_iff_toInt_le.mpr ?_)
    rw [word_int hn]
    omega
  have h' : IntOp.cmpi .sle (BitVec.ofNat 32 i.val) v = 1#1 := by
    show BitVec.ofBool (BitVec.sle _ _) = BitVec.ofBool true
    refine congrArg _ (BitVec.sle_iff_toInt_le.mpr ?_)
    rw [word_int hn]
    omega
  rw [h, h']
  rfl

end Cert.Proof

end
-- ==== Proof.RowTake.lean ====
/- Takes along the middle axis, one start index per result row, read at an element where that index is in range. -/
module

public import Idealize.ShloMosaic.Lib.Pointwise

@[expose] public section

noncomputable section

namespace Cert.Proof

open Idealize.ShloMosaic

variable {α : Type} {n : ℕ}
  (wf : GatherDims.WF ⟨3, ![4, n, 4]⟩ ⟨3, ![4, 6000, 1]⟩ ⟨3, ![4, 6000, 4]⟩ [2] [1] [0] [1] [0] 2 ![1, 1, 4])
  (wf' : GatherDims.WF ⟨2, ![4, n]⟩ ⟨3, ![4, 6000, 1]⟩ ⟨2, ![4, 6000]⟩ [] [1] [0] [1] [0] 2 ![1, 1])

/-- The take of 6000 rows of four among `n`, in each of four batches. -/
def rowTake (n : ℕ) (wf : GatherDims.WF ⟨3, ![4, n, 4]⟩ ⟨3, ![4, 6000, 1]⟩ ⟨3, ![4, 6000, 4]⟩ [2] [1] [0] [1] [0] 2 ![1, 1, 4]) :
    GatherDims ⟨3, ![4, n, 4]⟩ ⟨3, ![4, 6000, 1]⟩ ⟨3, ![4, 6000, 4]⟩ where
  offsetDims := [2]
  collapsedSliceDims := [1]
  operandBatchingDims := [0]
  startIndicesBatchingDims := [0]
  startIndexMap := [1]
  indexVectorDim := 2
  sliceSizes := ![1, 1, 4]
  wf := wf

/-- The take of 6000 entries among `n`, in each of four batches. -/
def entryTake (n : ℕ) (wf : GatherDims.WF ⟨2, ![4, n]⟩ ⟨3, ![4, 6000, 1]⟩ ⟨2, ![4, 6000]⟩ [] [1] [0] [1] [0] 2 ![1, 1]) :
    GatherDims ⟨2, ![4, n]⟩ ⟨3, ![4, 6000, 1]⟩ ⟨2, ![4, 6000]⟩ where
  offsetDims := []
  collapsedSliceDims := [1]
  operandBatchingDims := [0]
  startIndicesBatchingDims := [0]
  startIndexMap := [1]
  indexVectorDim := 2
  sliceSizes := ![1, 1]
  wf := wf

theorem gather_rows (x : (⟨3, ![4, n, 4]⟩ : Shape).Idx → α) (idx : IVec ⟨3, ![4, 6000, 1]⟩ 32) (p : Fin 4) (k : Fin 6000) (q : Fin 4) (i : Fin n)
    (hi : (idx (ix3 p k 0)).toInt = (i.val : ℤ)) :
    Host.gather (rowTake n wf) x idx (ix3 p k q) = x (ix3 p i q) := by
  unfold Host.gather
  congr 1
  funext a
  refine Fin.ext ?_
  show (rowTake n wf).start (ix3 p k q) idx a
    + (rowTake n wf).batchCoord (ix3 p k q) a
    + (rowTake n wf).offCoord (ix3 p k q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (rowTake n wf).operandBatchingDims from List.mem_singleton.mpr rfl)]
    rfl
  · rw [GatherDims.batchCoord_eq_zero _ _ _ (fun h => absurd (show (1 : ℕ) = 0 from congrArg Fin.val (List.mem_singleton.mp h)) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowTake n wf).startIndexMap from List.mem_singleton.mpr rfl)]
    have hsi : (rowTake n wf).siIdx (ix3 p k q) ⟨List.idxOf (1 : Fin 3) (rowTake n wf).startIndexMap,
        List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    rw [hsi, hi]
    show min (i.val : ℤ).toNat (n - 1) = i.val
    have := i.isLt
    omega
  · rw [GatherDims.batchCoord_eq_zero _ _ _ (fun h => absurd (show (2 : ℕ) = 0 from congrArg Fin.val (List.mem_singleton.mp h)) (by decide))]
    unfold GatherDims.start
    rw [dif_neg (show ¬ (2 : Fin 3) ∈ (rowTake n wf).startIndexMap from fun h => absurd (show (2 : ℕ) = 1 from congrArg Fin.val (List.mem_singleton.mp h)) (by decide))]
    simp only [Nat.zero_add, Nat.add_zero]
    rfl

theorem gather_entries (x : (⟨2, ![4, n]⟩ : Shape).Idx → α) (idx : IVec ⟨3, ![4, 6000, 1]⟩ 32) (p : Fin 4) (k : Fin 6000) (i : Fin n)
    (hi : (idx (ix3 p k 0)).toInt = (i.val : ℤ)) :
    Host.gather (entryTake n wf') x idx (ix2 p k) = x (ix2 p i) := by
  unfold Host.gather
  congr 1
  funext a
  refine Fin.ext ?_
  show (entryTake n wf').start (ix2 p k) idx a
    + (entryTake n wf').batchCoord (ix2 p k) a
    + (entryTake n wf').offCoord (ix2 p k) a = _
  have h012 : a = 0 ∨ a = 1 := by
    match a with
    | ⟨0, _⟩ => exact Or.inl rfl
    | ⟨1, _⟩ => exact Or.inr rfl
  rcases h012 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (entryTake n wf').operandBatchingDims from List.mem_singleton.mpr rfl)]
    rfl
  · rw [GatherDims.batchCoord_eq_zero _ _ _ (fun h => absurd (show (1 : ℕ) = 0 from congrArg Fin.val (List.mem_singleton.mp h)) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryTake n wf').startIndexMap from List.mem_singleton.mpr rfl)]
    have hsi : (entryTake n wf').siIdx (ix2 p k) ⟨List.idxOf (1 : Fin 2) (entryTake n wf').startIndexMap,
        List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    rw [hsi, hi]
    show min (i.val : ℤ).toNat (n - 1) = i.val
    have := i.isLt
    omega

end Cert.Proof

end
-- ==== Proof.KernelHost.lean ====
/- The host operations before the kernel's launch: the two-level selection of 6000 anchors equals the selection in one pass. -/
module

public import proofs.«01_k».proof.Proof.TopRead
public import proofs.«01_k».proof.Proof.RowTake
public import proofs.«01_k».proof.Proof.Gen.KernelIdeal.Value
public import Idealize.ShloMosaic.Lib.StableHlo.ReadAt

@[expose] public section

noncomputable section

namespace Cert.Proof

open Idealize.ShloMosaic Idealize.ShloMosaic.TcCoe Idealize.ShloMosaic.StableHlo Cert.KernelIdeal Cert.KernelIdeal.Gen

variable (X : Valuation τ sig (Elt Ideal)) (p : Fin 4) (i : Fin 6000)

/-- The selection of the pieces' best. -/
def pieceOps : List (HloOp τ sig (Elt Ideal)) := hostOps0.take 36

/-- The selection among them. -/
def mergeOps : List (HloOp τ sig (Elt Ideal)) := (hostOps0.drop 36).take 24

/-- The taking of the selected rows. -/
def takeOps : List (HloOp τ sig (Elt Ideal)) := (hostOps0.drop 36).drop 24

theorem after_split : after hostOps0 X = after takeOps (after mergeOps (after pieceOps X)) := by
  rw [← after_append, ← after_append]
  unfold takeOps mergeOps pieceOps
  rw [List.take_append_drop, List.take_append_drop]

/-! The pieces -/

/-- The scores cut into 16 pieces, four to a batch. -/
def pieces (d : (⟨3, ![4, 261888, 2]⟩ : Shape).Idx → EReal) : (⟨2, ![16, 65472]⟩ : Shape).Idx → EReal :=
  fun y => d (ix3 ⟨(y 0).val / 4, by have : (y 0).val < 16 := (y 0).isLt; omega⟩
    ⟨(y 0).val % 4 * 65472 + (y 1).val, by have : (y 1).val < 65472 := (y 1).isLt; omega⟩ 1)

theorem pieceFits : 6000 ≤ 65472 := by decide

theorem mergeFits : 6000 ≤ 24000 := by decide

/-- The piece that candidate `j` of batch `p` is of. -/
def pieceOf (p : Fin 4) (j : Fin 24000) : Fin 16 := ⟨p.val * 4 + j.val / 6000, by have := p.isLt; have := j.isLt; omega⟩

/-- Its place in its piece's list. -/
def placeOf (j : Fin 24000) : Fin 6000 := ⟨j.val % 6000, by omega⟩

theorem candidate_value (j : Fin 24000) : (after pieceOps X (Proc.devRef .tc main_call0_v10) : S4x24000.Idx → EReal) (ix2 p j)
    = pieces (X (Proc.devRef .tc main_arg0)) (ix2 (pieceOf p j) (rank pieceFits (pieces (X (Proc.devRef .tc main_arg0))) (pieceOf p j) (placeOf j))) := by
  unfold pieceOps hostOps0
  simp only [List.take_succ_cons, List.take_zero]
  after_reads_at
  exact topK_value pieceFits (pieces (X (Proc.devRef .tc main_arg0))) sliceFits_S16x65472_S16x6000 (pieceOf p j) (placeOf j)

/-- The position in its batch at which a piece starts, as computed from the piece's number. -/
def base (v : BitVec 32) : BitVec 32 :=
  let d : BitVec 32 := Scalar.select (IntOp.cmpi .eq (4#32) (0#32)) (1#32) (4#32)
  let r : BitVec 32 := IntOp.remsi ArithUnit.host v d
  IntOp.muli (Scalar.select (IntOp.andi (IntOp.cmpi .ne (IntOp.cmpi .slt r 0#32) (IntOp.cmpi .slt d 0#32)) (IntOp.cmpi .ne r 0#32)) (IntOp.addi r d) r) 65472#32

theorem base_eq (k : ℕ) (h : k < 16) : base (BitVec.ofNat 32 k) = BitVec.ofNat 32 (k % 4 * 65472) := by
  interval_cases k <;> rfl

theorem candidate_index (j : Fin 24000) : (after pieceOps X (Proc.devRef .tc main_call0_v11) : S4x24000.Idx → BitVec 32) (ix2 p j)
    = BitVec.ofNat 32 (j.val / 6000 * 65472 + (rank pieceFits (pieces (X (Proc.devRef .tc main_arg0))) (pieceOf p j) (placeOf j)).val) := by
  unfold pieceOps hostOps0
  simp only [List.take_succ_cons, List.take_zero]
  after_reads_at
  refine (congrArg₂ IntOp.addi (topK_word pieceFits (pieces (X (Proc.devRef .tc main_arg0))) sliceFits_S16x65472_S16x6000 (pieceOf p j) (placeOf j))
    (base_eq (pieceOf p j).val (pieceOf p j).isLt)).trans ?_
  show BitVec.ofNat 32 _ + BitVec.ofNat 32 _ = _
  rw [← BitVec.ofNat_add, Nat.add_comm]
  have : (pieceOf p j).val % 4 = j.val / 6000 := by
    show (p.val * 4 + j.val / 6000) % 4 = _
    have := j.isLt
    omega
  rw [this]

/-! The selection among the candidates -/

theorem merged (e : Fin 24000) (u : BitVec 32) (he : rank mergeFits (X (Proc.devRef .tc main_call0_v10) : S4x24000.Idx → EReal) p i = e)
    (hu : (X (Proc.devRef .tc main_call0_v11) : S4x24000.Idx → BitVec 32) (ix2 p e) = u) :
    (after mergeOps X (Proc.devRef .tc main_call0_v12) : S4x6000.Idx → BitVec 32) (ix2 p i) = u := by
  have hw := topK_word mergeFits (X (Proc.devRef .tc main_call0_v10) : S4x24000.Idx → EReal) sliceFits_S4x24000_S4x6000 p i
  rw [he] at hw
  unfold mergeOps hostOps0
  simp only [List.drop_succ_cons, List.drop_zero, List.take_succ_cons, List.take_zero]
  after_reads_at
  obtain ⟨w, ew⟩ : ∃ w : S4x6000.Idx → BitVec 32, w = (Host.topK S4x6000 1 (FloatOps.cmpfTotal (F := Ideal) (φ := .f32) .gt)
    (X (Proc.devRef .tc main_call0_v10) : S4x24000.Idx → EReal) sliceFits_S4x24000_S4x6000).2 := ⟨_, rfl⟩
  have hw : w (ix2 p i) = BitVec.ofNat 32 e.val := (congrFun ew _).trans hw
  rw [Finset.univ_unique, Finset.fold_singleton]
  refine (congrArg₂ (fun a b => Scalar.select a b 2147483648#32) (?_ : _ = 1#1) (gather_entries
    gather_S4x24000_S4x6000x1_S4x6000_n_1_0_0_1_2_11_wf _ _ p i e ?_)).trans hu
  · show IntOp.andi (IntOp.andi (IntOp.cmpi .sge (Scalar.select (IntOp.cmpi .slt (_ : BitVec 32) 0#32) (IntOp.addi _ 24000#32) _) 0#32)
      (IntOp.cmpi .sle (Scalar.select (IntOp.cmpi .slt (_ : BitVec 32) 0#32) (IntOp.addi _ 24000#32) _) 23999#32)) 1#1 = _
    rw [← ew, wrap_word (by decide) e _ _ hw, hw, inside_word (by decide) e _ (by decide)]
    rfl
  · refine Eq.trans (congrArg BitVec.toInt ?_) (word_int (by decide) e)
    refine Eq.trans ?_ ((wrap_word (by decide) e _ 24000#32 hw).trans hw)
    rw [ew]
    rfl

theorem merge_kept : after mergeOps X (Proc.devRef .tc main_arg2) = X (Proc.devRef .tc main_arg2) := by
  unfold mergeOps hostOps0
  simp only [List.drop_succ_cons, List.drop_zero, List.take_succ_cons, List.take_zero]
  after_reads_simp

theorem piece_kept : after pieceOps X (Proc.devRef .tc main_arg2) = X (Proc.devRef .tc main_arg2) := by
  unfold pieceOps hostOps0
  simp only [List.take_succ_cons, List.take_zero]
  after_reads_simp

/-- Ranking the pieces' best finds the batch's best: the index the two levels give is the one a single ranking gives. -/
theorem selectedIndex : (after mergeOps (after pieceOps X) (Proc.devRef .tc main_call0_v12) : S4x6000.Idx → BitVec 32) (ix2 p i)
    = BitVec.ofNat 32 (rank fits (scores (X (Proc.devRef .tc main_arg0))) p i).val := by
  refine merged _ p i _ _ rfl ((candidate_index X p _).trans (congrArg (BitVec.ofNat 32) ?_))
  obtain ⟨d, ed⟩ : ∃ d : (⟨3, ![4, 261888, 2]⟩ : Shape).Idx → EReal, d = X (Proc.devRef .tc main_arg0) := ⟨_, rfl⟩
  obtain ⟨Z, eZ⟩ : ∃ Z : S4x24000.Idx → EReal, Z = after pieceOps X (Proc.devRef .tc main_call0_v10) := ⟨_, rfl⟩
  rw [← ed, ← eZ]
  have hZ : ∀ j, Z (ix2 p j) = pieces d (ix2 (pieceOf p j) (rank pieceFits (pieces d) (pieceOf p j) (placeOf j))) := fun j => by
    rw [eZ, ed]
    exact candidate_value X p j
  obtain ⟨j, ej⟩ : ∃ j, j = rank mergeFits Z p i := ⟨_, rfl⟩
  rw [← ej]
  have hj := j.isLt
  have hp := p.isLt
  have at_piece : ∀ (q : Fin 24000) (c : Fin 4) (r : Fin 6000), q.val = c.val * 6000 + r.val →
      pieceOf p q = ⟨p.val * 4 + c.val, by have := c.isLt; omega⟩ ∧ placeOf q = r := fun q c r h => by
    have := r.isLt
    constructor
    · refine Fin.ext ?_
      show p.val * 4 + q.val / 6000 = p.val * 4 + c.val
      omega
    · refine Fin.ext ?_
      show q.val % 6000 = r.val
      omega
  have key := twoLevel (C := 4) (m := 65472) (k := 6000) (p := 24000) (n := 261888) (by decide) (by decide) pieceFits mergeFits fits
    (fun x => scores d (ix2 p x)) (fun c x => pieces d (ix2 ⟨p.val * 4 + c.val, by have := c.isLt; omega⟩ x))
    (fun c x y h => ?_) (fun q => Z (ix2 p q)) (fun q c r h => ?_) i ⟨j.val / 6000, by omega⟩ (placeOf j) ?_
  · refine Eq.trans ?_ key.symm
    rw [(at_piece j ⟨j.val / 6000, by omega⟩ (placeOf j) ?_).1]
    · rfl
    · show j.val = j.val / 6000 * 6000 + j.val % 6000
      omega
  · have := c.isLt
    show d (ix3 _ _ 1) = d (ix3 _ _ 1)
    refine congrArg₂ (fun a b => d (ix3 a b 1)) (Fin.ext ?_) (Fin.ext ?_)
    · show (p.val * 4 + c.val) / 4 = p.val
      omega
    · show (p.val * 4 + c.val) % 4 * 65472 + x.val = y.val
      omega
  · obtain ⟨h1, h2⟩ := at_piece q c r h
    refine (hZ q).trans ?_
    rw [h1, h2]
    rfl
  · refine (congrArg Fin.val ej.symm).trans ?_
    show j.val = j.val / 6000 * 6000 + j.val % 6000
    omega

/-! The taking of the rows -/

theorem taken_row (w : Fin 261888) (hw : (X (Proc.devRef .tc main_call0_v12) : S4x6000.Idx → BitVec 32) (ix2 p i) = BitVec.ofNat 32 w.val) (r : Fin 4) :
    (after takeOps X (Proc.devRef .tc main_call0_v15) : S4x4x6000.Idx → EReal) (ix3 p r i)
      = (X (Proc.devRef .tc main_arg2) : S4x261888x4.Idx → EReal) (ix3 p w r) := by
  unfold takeOps hostOps0
  simp only [List.drop_succ_cons, List.drop_zero]
  after_reads_at
  rw [Finset.univ_unique, Finset.fold_singleton]
  refine (congrArg₂ (fun a b => Scalar.select a b (Ideal.ofBits .f32 2143289344#32)) (?_ : _ = 1#1) (gather_rows
    gather_S4x261888x4_S4x6000x1_S4x6000x4_2_1_0_0_1_2_114_wf _ _ p i r w ?_)).trans rfl
  · rw [wrap_word (by decide) w _ _ hw, hw, inside_word (by decide) w _ (by decide)]
    rfl
  · refine Eq.trans (congrArg BitVec.toInt ?_) (word_int (by decide) w)
    refine Eq.trans ?_ ((wrap_word (by decide) w _ 261888#32 hw).trans hw)
    pointwise

/-- The transposed anchors at the launch are those of the 6000 highest scores. -/
theorem launch_anchors (m : (ℓ : Loc nD τ sig) → Buf (Elt Ideal) ℓ) (c : Dev nD) (r : Fin 4) :
    (V m c main_call0_v15 : S4x4x6000.Idx → EReal) (ix3 p r i)
      = taken (m ((c.tc : Thread nD τ).loc main_arg0)) (m ((c.tc : Thread nD τ).loc main_arg2)) (ix3 p i r) := by
  show (after hostOps0 (fun b => m (c, b)) (Proc.devRef .tc main_call0_v15) : S4x4x6000.Idx → EReal) (ix3 p r i) = _
  rw [after_split]
  refine (taken_row _ p i _ (selectedIndex _ p i) r).trans ?_
  rw [merge_kept, piece_kept]
  rfl

end Cert.Proof

end
-- ==== Proof.Gathers.lean ====
/- The reference's gathers read at an index, where the start index in hand is a valid position. -/
module

public import proofs.«01_k».proof.Proof.Gen.ReferenceIdeal
public import proofs.«01_k».proof.Proof.RowTake

@[expose] public section

noncomputable section

namespace Cert.Proof

open Idealize.ShloMosaic Cert.ReferenceIdeal Cert.ReferenceIdeal.Gen

variable {α : Type}

theorem gather_flag (x : S4x6000.Idx → α) (idx : IVec S4x1 32) (p : Fin 4) (i : Fin 6000)
    (hi : (idx (ix2 p 0)).toInt = (i.val : ℤ)) :
    Host.gather gather_S4x6000_S4x1_S4_n_1_0_0_1_1_11 x idx (ix1 p) = x (ix2 p i) := by
  unfold Host.gather
  congr 1
  funext a
  refine Fin.ext ?_
  show gather_S4x6000_S4x1_S4_n_1_0_0_1_1_11.start (ix1 p) idx a + gather_S4x6000_S4x1_S4_n_1_0_0_1_1_11.batchCoord (ix1 p) a
    + gather_S4x6000_S4x1_S4_n_1_0_0_1_1_11.offCoord (ix1 p) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S4x6000_S4x1_S4_n_1_0_0_1_1_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4x6000_S4x1_S4_n_1_0_0_1_1_11.startIndexMap from List.mem_singleton.mpr rfl)]
    have hsi : gather_S4x6000_S4x1_S4_n_1_0_0_1_1_11.siIdx (ix1 p) ⟨List.idxOf (1 : Fin 2) gather_S4x6000_S4x1_S4_n_1_0_0_1_1_11.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi, hi]
    show min (i.val : ℤ).toNat (6000 - 1) = i.val
    have := i.isLt
    omega

theorem gather_box (x : S4x6000x4.Idx → α) (idx : IVec S4x1 32) (p q : Fin 4) (i : Fin 6000)
    (hi : (idx (ix2 p 0)).toInt = (i.val : ℤ)) :
    Host.gather gather_S4x6000x4_S4x1_S4x4_1_1_0_0_1_1_114 x idx (ix2 p q) = x (ix3 p i q) := by
  unfold Host.gather
  congr 1
  funext a
  refine Fin.ext ?_
  show gather_S4x6000x4_S4x1_S4x4_1_1_0_0_1_1_114.start (ix2 p q) idx a
    + gather_S4x6000x4_S4x1_S4x4_1_1_0_0_1_1_114.batchCoord (ix2 p q) a
    + gather_S4x6000x4_S4x1_S4x4_1_1_0_0_1_1_114.offCoord (ix2 p q) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x6000x4_S4x1_S4x4_1_1_0_0_1_1_114.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x6000x4_S4x1_S4x4_1_1_0_0_1_1_114.startIndexMap from List.mem_singleton.mpr rfl)]
    have hsi : gather_S4x6000x4_S4x1_S4x4_1_1_0_0_1_1_114.siIdx (ix2 p q) ⟨List.idxOf (1 : Fin 3) gather_S4x6000x4_S4x1_S4x4_1_1_0_0_1_1_114.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi, hi]
    show min (i.val : ℤ).toNat (6000 - 1) = i.val
    have := i.isLt
    omega
  · rw [GatherDims.batchCoord_eq_zero _ _ _ (fun h => absurd (List.mem_singleton.mp h) (by decide))]
    unfold GatherDims.start
    rw [dif_neg (show ¬ (2 : Fin 3) ∈ gather_S4x6000x4_S4x1_S4x4_1_1_0_0_1_1_114.startIndexMap from fun h => absurd (List.mem_singleton.mp h) (by decide))]
    simp only [Nat.zero_add, Nat.add_zero]
    rfl

theorem gather_sorted (x : S4x6000x4.Idx → α) (idx : IVec S4x6000x1 32) (p : Fin 4) (k : Fin 6000) (q : Fin 4) (i : Fin 6000)
    (hi : (idx (ix3 p k 0)).toInt = (i.val : ℤ)) :
    Host.gather gather_S4x6000x4_S4x6000x1_S4x6000x4_2_1_0_0_1_2_114 x idx (ix3 p k q) = x (ix3 p i q) :=
  gather_rows gather_S4x6000x4_S4x6000x1_S4x6000x4_2_1_0_0_1_2_114_wf x idx p k q i hi

theorem gather_taken (x : S4x261888x4.Idx → α) (idx : IVec S4x6000x1 32) (p : Fin 4) (k : Fin 6000) (q : Fin 4) (i : Fin 261888)
    (hi : (idx (ix3 p k 0)).toInt = (i.val : ℤ)) :
    Host.gather gather_S4x261888x4_S4x6000x1_S4x6000x4_2_1_0_0_1_2_114 x idx (ix3 p k q) = x (ix3 p i q) :=
  gather_rows gather_S4x261888x4_S4x6000x1_S4x6000x4_2_1_0_0_1_2_114_wf x idx p k q i hi

end Cert.Proof

end
-- ==== Proof.Argmax.lean ====
/- The reference's largest-flag reduction: the number of the first set flag of a row, 0 where none is set. -/
module

public import proofs.«01_k».proof.Proof.Gen.ReferenceIdeal
public import proofs.«01_k».proof.Proof.Model
public import Idealize.ShloMosaic.Lib.Pointwise

@[expose] public section

noncomputable section

namespace Cert.Proof

open Idealize.ShloMosaic Cert.ReferenceIdeal Cert.ReferenceIdeal.Gen

/-- The pair that the reduction folds for flag `j`. -/
def flagPair (a : Fin 6000 → Bool) (j : Fin 6000) : BitVec 1 × BitVec 32 := (BitVec.ofBool (a j), BitVec.ofNat 32 j.val)

theorem word_toInt (j : Fin 6000) : (BitVec.ofNat 32 j.val).toInt = (j.val : ℤ) := by
  have := j.isLt
  rw [BitVec.toInt_eq_toNat_of_lt (by rw [BitVec.toNat_ofNat]; omega), BitVec.toNat_ofNat]
  omega

theorem reducer_unset (r : BitVec 1 × BitVec 32) (n : BitVec 32) (h : r = (0#1, 0#32) ∨ r.1 = 1#1) (hn : 0 ≤ n.toInt) :
    reducer_argmax_i1_i32 r (0#1, n) = r := by
  obtain ⟨f, i⟩ := r
  rcases h with h | h
  · obtain ⟨rfl, rfl⟩ := Prod.ext_iff.mp h
    unfold reducer_argmax_i1_i32
    dsimp only
    by_cases h0 : n = 0#32
    · subst h0; rfl
    · have hs : IntOp.cmpi .slt 0#32 n = 1#1 := by
        show BitVec.ofBool (BitVec.slt 0#32 n) = BitVec.ofBool true
        refine congrArg _ (BitVec.slt_iff_toInt_lt.mpr ?_)
        have : n.toInt ≠ 0 := fun e => h0 (BitVec.eq_of_toInt_eq (by rw [e]; rfl))
        have e0 : (0#32 : BitVec 32).toInt = 0 := by decide
        omega
      rw [hs]
      rfl
  · obtain rfl : f = 1#1 := h
    have e1 : IntOp.ori (IntOp.cmpi .ugt (1#1 : BitVec 1) 0#1) (IntOp.cmpi .ne (1#1 : BitVec 1) 1#1) = 1#1 := by decide
    have e2 : ∀ w : BitVec 1, IntOp.ori 1#1 w = 1#1 := by decide
    unfold reducer_argmax_i1_i32
    dsimp only
    rw [e1, e2]
    rfl

theorem reducer_first (n : BitVec 32) : reducer_argmax_i1_i32 (0#1, 0#32) (1#1, n) = (1#1, n) := by
  have e1 : IntOp.ori (IntOp.cmpi .ugt (0#1 : BitVec 1) 1#1) (IntOp.cmpi .ne (0#1 : BitVec 1) 0#1) = 0#1 := by decide
  have e2 : ∀ w : BitVec 1, IntOp.ori 0#1 (IntOp.andi (IntOp.cmpi .eq (0#1 : BitVec 1) 1#1) w) = 0#1 := by decide
  unfold reducer_argmax_i1_i32
  dsimp only
  rw [e1, e2]
  rfl

theorem reducer_both (i n : BitVec 32) :
    reducer_argmax_i1_i32 (1#1, i) (1#1, n) = (1#1, if i.toInt < n.toInt then i else n) := by
  unfold reducer_argmax_i1_i32
  dsimp only
  by_cases h : i.toInt < n.toInt
  · have hs : IntOp.cmpi .slt i n = 1#1 := congrArg BitVec.ofBool (BitVec.slt_iff_toInt_lt.mpr h)
    rw [hs, if_pos h]
    rfl
  · have hs : IntOp.cmpi .slt i n = 0#1 := by
      show BitVec.ofBool (BitVec.slt i n) = BitVec.ofBool false
      refine congrArg _ (Bool.eq_false_iff.mpr ?_)
      exact fun e => h (BitVec.slt_iff_toInt_lt.mp e)
    rw [hs, if_neg h]
    rfl

/-- What the fold has after a list of flags: nothing where none was set, else the least set one. -/
theorem fold_flags (a : Fin 6000 → Bool) (L : List (BitVec 1 × BitVec 32)) (hL : ∀ e ∈ L, ∃ j, e = flagPair a j) :
    (L.foldl reducer_argmax_i1_i32 (0#1, 0#32) = (0#1, 0#32) ∧ ∀ j, a j = true → flagPair a j ∉ L)
    ∨ ∃ i : Fin 6000, L.foldl reducer_argmax_i1_i32 (0#1, 0#32) = (1#1, BitVec.ofNat 32 i.val) ∧ a i = true
        ∧ ∀ j, a j = true → flagPair a j ∈ L → i ≤ j := by
  induction L using List.reverseRecOn with
  | nil => exact Or.inl ⟨rfl, fun j _ => List.not_mem_nil⟩
  | append_singleton L e ih =>
    have ih := ih fun e he => hL e (List.mem_append_left _ he)
    obtain ⟨j, rfl⟩ := hL e (List.mem_append_right _ (List.mem_singleton.mpr rfl))
    have hinj : ∀ j', flagPair a j' = flagPair a j → j' = j := fun j' h => by
      have h2 := congrArg BitVec.toInt (Prod.ext_iff.mp h).2
      rw [show (flagPair a j').2 = BitVec.ofNat 32 j'.val from rfl, show (flagPair a j).2 = BitVec.ofNat 32 j.val from rfl,
        word_toInt, word_toInt] at h2
      exact Fin.ext (by exact_mod_cast h2)
    rw [List.foldl_append]
    have hmem : ∀ j', flagPair a j' ∈ L ++ [flagPair a j] → flagPair a j' ∈ L ∨ j' = j := fun j' h => by
      rcases List.mem_append.mp h with h | h
      · exact Or.inl h
      · exact Or.inr (hinj j' (List.mem_singleton.mp h))
    cases haj : a j with
    | false =>
      have hp : flagPair a j = (0#1, BitVec.ofNat 32 j.val) := by unfold flagPair; rw [haj]; rfl
      have hn : 0 ≤ (BitVec.ofNat 32 j.val).toInt := by rw [word_toInt]; omega
      rcases ih with ⟨h, hno⟩ | ⟨i, h, hi, hle⟩
      · refine Or.inl ⟨?_, fun j' h' hm => ?_⟩
        · rw [h, hp]
          exact reducer_unset _ _ (Or.inl rfl) hn
        · rcases hmem j' hm with hm | rfl
          · exact hno j' h' hm
          · rw [haj] at h'
            exact absurd h' (by decide)
      · refine Or.inr ⟨i, ?_, hi, fun j' h' hm => ?_⟩
        · rw [h, hp]
          exact reducer_unset _ _ (Or.inr rfl) hn
        · rcases hmem j' hm with hm | rfl
          · exact hle j' h' hm
          · rw [haj] at h'
            exact absurd h' (by decide)
    | true =>
      have hp : flagPair a j = (1#1, BitVec.ofNat 32 j.val) := by unfold flagPair; rw [haj]; rfl
      rcases ih with ⟨h, hno⟩ | ⟨i, h, hi, hle⟩
      · refine Or.inr ⟨j, ?_, haj, fun j' h' hm => ?_⟩
        · rw [h, hp]
          exact reducer_first _
        · rcases hmem j' hm with hm | rfl
          · exact absurd hm (hno j' h')
          · exact le_rfl
      · have hr : List.foldl reducer_argmax_i1_i32 (1#1, BitVec.ofNat 32 i.val) [flagPair a j]
            = (1#1, if (i.val : ℤ) < j.val then BitVec.ofNat 32 i.val else BitVec.ofNat 32 j.val) := by
          rw [hp, ← word_toInt i, ← word_toInt j]
          exact reducer_both _ _
        rw [h, hr]
        by_cases hij : i.val < j.val
        · refine Or.inr ⟨i, by rw [if_pos (by exact_mod_cast hij)], hi, fun j' h' hm => ?_⟩
          rcases hmem j' hm with hm | rfl
          · exact hle j' h' hm
          · exact Fin.le_of_lt hij
        · refine Or.inr ⟨j, by rw [if_neg (by exact_mod_cast hij)], haj, fun j' h' hm => ?_⟩
          rcases hmem j' hm with hm | rfl
          · exact le_trans (Fin.not_lt.mp hij) (hle j' h' hm)
          · exact le_rfl

/-- The reduction of a row of flags. -/
theorem argmax_eq (x : S4x6000.Idx → BitVec 1) (y : S4x6000.Idx → BitVec 32) (u : S_.Idx → BitVec 1) (v : S_.Idx → BitVec 32)
    (p : Fin 4) (a : Fin 6000 → Bool) (hx : ∀ j, x (ix2 p j) = BitVec.ofBool (a j)) (hy : ∀ j, y (ix2 p j) = BitVec.ofNat 32 j.val)
    (hu : ∀ i, u i = 0#1) (hv : ∀ i, v i = 0#32) :
    (Host.reduce2 reducer_argmax_i1_i32 x y u v reducesTo_S4x6000_S4_d1 h_S_ (ix1 p)).2 = BitVec.ofNat 32 (first a).val := by
  rw [Host.reduce2_eq_foldl_fiber, hu, hv]
  have hdrop : ∀ i : S4x6000.Idx, reducesTo_S4x6000_S4_d1.drop i = ix1 (i 0) := fun i => by
    funext b
    obtain rfl : b = 0 := Subsingleton.elim _ _
    exact Fin.ext (Shape.ReducesTo.drop_apply_val reducesTo_S4x6000_S4_d1 i 0)
  generalize hL : Host.argReduceFiber x y reducesTo_S4x6000_S4_d1 (ix1 p) = L
  have h1 : ∀ e ∈ L, ∃ j, e = flagPair a j := by
    rw [← hL]
    intro e he
    obtain ⟨n, hn, rfl⟩ := List.mem_map.mp he
    have hn := (List.mem_filter.mp hn).2
    generalize S4x6000.rowMajor.symm n = i at hn ⊢
    have hd : reducesTo_S4x6000_S4_d1.drop i = ix1 p := by simpa using hn
    rw [hdrop] at hd
    obtain ⟨i0, i1, rfl⟩ : ∃ (p' : Fin 4) (q : Fin 6000), i = ix2 p' q := ⟨i 0, i 1, eq_ix2 i⟩
    obtain rfl : i0 = p := congrFun hd 0
    refine ⟨i1, ?_⟩
    rw [hx, hy]
    rfl
  have h2 : ∀ j, flagPair a j ∈ L := by
    rw [← hL]
    intro j
    refine List.mem_map.mpr ⟨S4x6000.rowMajor (ix2 p j), List.mem_filter.mpr ⟨List.mem_finRange _, ?_⟩, ?_⟩
    · rw [Equiv.symm_apply_apply, hdrop]
      simp
    · rw [Equiv.symm_apply_apply, hx, hy]
      rfl
  rcases fold_flags a L h1 with ⟨h, hno⟩ | ⟨i, h, hi, hle⟩
  · rw [h, first_of_not_live]
    · rfl
    · rw [Bool.eq_false_iff]
      intro hl
      obtain ⟨j, hj⟩ := (live_iff a).mp hl
      exact hno j hj (h2 j)
  · rw [h, first_eq a i hi]
    intro j hj
    rw [Bool.eq_false_iff]
    exact fun hj' => absurd (hle j hj' (h2 j)) (not_le.mpr hj)

end Cert.Proof

end
-- ==== Proof.RefStep.lean ====
/- One trip of the reference's loop: each stretch of its body read at an element, from what its row held before. -/
module

public import proofs.«01_k».proof.Proof.Gen.ReferenceIdeal.Run
public import proofs.«01_k».proof.Proof.Gathers
public import proofs.«01_k».proof.Proof.Argmax
public import Idealize.ShloMosaic.Lib.StableHlo.ReadAt

@[expose] public section

noncomputable section

namespace Cert.Proof

open Idealize.ShloMosaic Idealize.ShloMosaic.TcCoe Idealize.ShloMosaic.StableHlo Cert.ReferenceIdeal Cert.ReferenceIdeal.Gen Cert.ReferenceIdeal.Value

variable (X : Valuation τ sig (Elt Ideal)) (p : Fin 4) (a : Fin 6000 → Bool) (b : Fin 4 → Fin 6000 → EReal)

theorem flags_eq (hS : ∀ i, (X (Proc.devRef .tc main_v77_3) : S4x6000.Idx → BitVec 1) (ix2 p i) = BitVec.ofBool (!a i)) (j : Fin 6000) :
    (after while0Ops0 X (Proc.devRef .tc main_while0b_v79) : S4x6000.Idx → BitVec 1) (ix2 p j) = BitVec.ofBool (a j) := by
  after_reads_at
  rw [hS]
  cases a j <;> rfl

theorem index_eq (hF : ∀ i, (X (Proc.devRef .tc main_while0b_v79) : S4x6000.Idx → BitVec 1) (ix2 p i) = BitVec.ofBool (a i)) :
    (after while0Ops0_1 X (Proc.devRef .tc main_while0b_v80) : S4.Idx → BitVec 32) (ix1 p) = BitVec.ofNat 32 (first a).val := by
  after_reads_simp
  simp -implicitDefEqProofs only [StableHlo.TRef.toBuf, StableHlo.TRef.ofBuf, cast_cast, cast_eq]
  refine argmax_eq _ _ _ _ p a hF (fun j => ?_) (fun _ => rfl) (fun _ => rfl)
  rfl

/-- The start index of a take of a valid position is that position. -/
theorem wrap_eq (i : Fin 6000) : Scalar.select (IntOp.cmpi .slt (BitVec.ofNat 32 i.val) 0#32)
    (IntOp.addi (BitVec.ofNat 32 i.val) 6000#32) (BitVec.ofNat 32 i.val) = BitVec.ofNat 32 i.val := by
  have h : IntOp.cmpi .slt (BitVec.ofNat 32 i.val) 0#32 = 0#1 := by
    show BitVec.ofBool (BitVec.slt _ _) = BitVec.ofBool false
    refine congrArg _ (Bool.eq_false_iff.mpr fun e => ?_)
    have e := BitVec.slt_iff_toInt_lt.mp e
    rw [word_toInt] at e
    have e0 : (0#32 : BitVec 32).toInt = 0 := by decide
    omega
  rw [h]
  rfl

theorem inside_eq (i : Fin 6000) : IntOp.andi (IntOp.cmpi .sge (BitVec.ofNat 32 i.val) 0#32)
    (IntOp.cmpi .sle (BitVec.ofNat 32 i.val) 5999#32) = 1#1 := by
  have hi := i.isLt
  have e0 : (0#32 : BitVec 32).toInt = 0 := by decide
  have e1 : (5999#32 : BitVec 32).toInt = 5999 := by decide
  have h : IntOp.cmpi .sge (BitVec.ofNat 32 i.val) 0#32 = 1#1 := by
    show BitVec.ofBool (BitVec.sle _ _) = BitVec.ofBool true
    refine congrArg _ (BitVec.sle_iff_toInt_le.mpr ?_)
    rw [word_toInt]
    omega
  have h' : IntOp.cmpi .sle (BitVec.ofNat 32 i.val) 5999#32 = 1#1 := by
    show BitVec.ofBool (BitVec.sle _ _) = BitVec.ofBool true
    refine congrArg _ (BitVec.sle_iff_toInt_le.mpr ?_)
    rw [word_toInt]
    omega
  rw [h, h']
  rfl

theorem start_toInt (x : S4.Idx → BitVec 32) (i : Fin 6000) (h : x (ix1 p) = BitVec.ofNat 32 i.val) :
    (broadcastInDim S4x1 ![0] bcast_S4_S4x1_0 (select (cmpi .slt x (broadcastInDim S4 ![] bcast_S_S4 (constantI S_ 32 0#32)))
      (addi x (broadcastInDim S4 ![] bcast_S_S4 (constantI S_ 32 6000#32))) x) (ix2 p 0)).toInt = (i.val : ℤ) := by
  rw [← word_toInt, ← wrap_eq, ← h]
  pointwise

theorem first_flag : a (first a) = live a := by
  cases h : live a with
  | true => exact first_mem a h
  | false =>
    rw [Bool.eq_false_iff]
    intro e
    rw [(live_iff a).mpr ⟨_, e⟩] at h
    exact absurd h (by decide)

theorem valid_eq (hF : ∀ i, (X (Proc.devRef .tc main_while0b_v79) : S4x6000.Idx → BitVec 1) (ix2 p i) = BitVec.ofBool (a i))
    (hI : (X (Proc.devRef .tc main_while0b_v80) : S4.Idx → BitVec 32) (ix1 p) = BitVec.ofNat 32 (first a).val) :
    (after while0Ops0_2 X (Proc.devRef .tc main_while0b_v81) : S4.Idx → BitVec 1) (ix1 p) = BitVec.ofBool (live a) := by
  after_reads_at
  rw [gather_flag _ _ p (first a) (start_toInt p _ _ hI), hF, hI, wrap_eq, inside_eq, first_flag a]
  rfl

theorem picked_eq (hB : ∀ q i, (X (Proc.devRef .tc main_v77_0) : S4x6000x4.Idx → EReal) (ix3 p i q) = b q i)
    (hI : (X (Proc.devRef .tc main_while0b_v80) : S4.Idx → BitVec 32) (ix1 p) = BitVec.ofNat 32 (first a).val) (q : Fin 4) :
    (after while0Ops0_3 X (Proc.devRef .tc main_while0b_v82) : S4x4.Idx → EReal) (ix2 p q) = b q (first a) := by
  after_reads_at
  rw [gather_box _ _ p q (first a) (start_toInt p _ _ hI), hB, hI, wrap_eq, inside_eq]
  rfl

theorem suppressed_eq (hB : ∀ q i, (X (Proc.devRef .tc main_v77_0) : S4x6000x4.Idx → EReal) (ix3 p i q) = b q i)
    (hA : ∀ i, (X (Proc.devRef .tc main_v77_1) : S4x6000.Idx → EReal) (ix2 p i) = area b i)
    (hS : ∀ i, (X (Proc.devRef .tc main_v77_3) : S4x6000.Idx → BitVec 1) (ix2 p i) = BitVec.ofBool (!a i))
    (hI : (X (Proc.devRef .tc main_while0b_v80) : S4.Idx → BitVec 32) (ix1 p) = BitVec.ofNat 32 (first a).val)
    (hV : (X (Proc.devRef .tc main_while0b_v81) : S4.Idx → BitVec 1) (ix1 p) = BitVec.ofBool (live a))
    (hP : ∀ q, (X (Proc.devRef .tc main_while0b_v82) : S4x4.Idx → EReal) (ix2 p q) = b q (first a)) (j : Fin 6000) :
    (after while0Ops0_4 X (Proc.devRef .tc main_while0b_v148) : S4x6000.Idx → BitVec 1) (ix2 p j) = BitVec.ofBool (!step b a j) := by
  after_reads_at
  have e : IntOp.cmpi .eq (BitVec.ofNat 32 j.val) (BitVec.ofNat 32 (first a).val) = BitVec.ofBool (decide (j = first a)) := by
    show BitVec.ofBool _ = _
    refine congrArg _ ?_
    rw [Bool.eq_iff_iff, beq_iff_eq, decide_eq_true_iff]
    refine ⟨fun h => ?_, fun h => by rw [h]⟩
    have h := congrArg BitVec.toInt h
    rw [word_toInt, word_toInt] at h
    exact Fin.ext (by exact_mod_cast h)
  rw [hS, hA, hI, hV]
  simp only [hB, hP]
  rw [e]
  unfold step tooClose
  by_cases h : Ideal.ofBits .f32 0x3F333333#32 < Ideal.div (shared b (first a) j)
    (area b (first a) + area b j - shared b (first a) j + Ideal.ofBits .f32 0x3089705F#32)
  all_goals
    generalize decide (j = first a) = t
    simp only [shared, area] at h ⊢
  · simp only [h, decide_true]
    cases live a <;> cases t <;> cases a j <;> rfl
  · simp only [h, decide_false]
    cases live a <;> cases t <;> cases a j <;> rfl

theorem zeros_eq : (after while0Ops0_4 X (Proc.devRef .tc main_while0b_v149) : S4.Idx → EReal) (ix1 p) = (0 : EReal) := by
  after_reads_at

theorem row_eq (hV : (X (Proc.devRef .tc main_while0b_v81) : S4.Idx → BitVec 1) (ix1 p) = BitVec.ofBool (live a))
    (hP : ∀ q, (X (Proc.devRef .tc main_while0b_v82) : S4x4.Idx → EReal) (ix2 p q) = b q (first a))
    (hZ : ∀ q, (X (Proc.devRef .tc main_while0b_v149) : S4.Idx → EReal) (ix1 q) = (0 : EReal)) (q : Fin 4) :
    (after while0Ops0_5 X (Proc.devRef .tc main_while0b_v150) : S4x4.Idx → EReal) (ix2 p q) = chosen b a q := by
  after_reads_at
  rw [hV, hP, hZ]
  unfold chosen
  cases live a <;> rfl

theorem iv_toInt (k : ℕ) (hk : k < 1000) : (Scf.iv 0#32 1#32 k).toInt = (k : ℤ) := by
  have e : Scf.iv 0#32 1#32 k = BitVec.ofNat 32 k := by
    unfold Scf.iv
    rw [BitVec.mul_one, BitVec.zero_add]
  rw [e]
  exact word_toInt ⟨k, by omega⟩

/-- The update writes row `k` and leaves the others. -/
theorem update_row (x : S1000x4x4.Idx → EReal) (u : S1x4x4.Idx → EReal) (start : Fin 3 → Int) (h : S1000x4x4.Slices (fun _ => 0) S1x4x4)
    (k : ℕ) (hk : k < 1000) (e0 : start 0 = k) (e1 : start 1 = 0) (e2 : start 2 = 0) (r : Fin 1000) (q : Fin 4) :
    Host.dynamicUpdateSlice x u start h (ix3 r p q) = if r.val = k then u (ix3 0 p q) else x (ix3 r p q) := by
  have c0 := Host.clampedStart_of_le (s := S1000x4x4) (t := S1x4x4) h.1 start 0 k e0 (by show k + 1 ≤ 1000; omega)
  have c1 := Host.clampedStart_of_le (s := S1000x4x4) (t := S1x4x4) h.1 start 1 0 e1 (by show 0 + 4 ≤ 4; omega)
  have c2 := Host.clampedStart_of_le (s := S1000x4x4) (t := S1x4x4) h.1 start 2 0 e2 (by show 0 + 4 ≤ 4; omega)
  have hp := p.isLt
  have hq := q.isLt
  pointwise
  by_cases hr : r.val = k
  · rw [dif_pos (by omega), if_pos hr]
    refine congrArg u ?_
    refine congr (congr (congrArg _ (Fin.ext ?_)) (Fin.ext ?_)) (Fin.ext ?_)
    · show r.val - _ = 0
      omega
    · show p.val - _ = p.val
      omega
    · show q.val - _ = q.val
      omega
  · rw [dif_neg (by omega), if_neg hr]

theorem placed_eq (k : ℕ) (hk : k < 1000) (row : Fin 4 → EReal)
    (hC : (X (Proc.devRef .tc main_v77_2) : S_.Idx → BitVec 32) = fun _ => Scf.iv 0#32 1#32 k)
    (hR : ∀ q, (X (Proc.devRef .tc main_while0b_v150) : S4x4.Idx → EReal) (ix2 p q) = row q) (r : Fin 1000) (q : Fin 4) :
    (after while0Ops0_6 X (Proc.devRef .tc main_while0b_v151) : S1000x4x4.Idx → EReal) (ix3 r p q)
      = if r.val = k then row q else (X (Proc.devRef .tc main_v77_4) : S1000x4x4.Idx → EReal) (ix3 r p q) := by
  after_reads_simp
  refine (update_row p _ _ _ updateFits_S1000x4x4_S1x4x4 k hk ?_ ?_ ?_ r q).trans ?_
  · show BitVec.toInt ((upto while0Ops0_6 X 3 (Proc.devRef .tc main_v77_2) : S_.Idx → BitVec 32) (Shape.Idx.first h_S_)) = _
    have e : upto while0Ops0_6 X 3 (Proc.devRef .tc main_v77_2) = X (Proc.devRef .tc main_v77_2) := by
      after_reads_simp
    rw [e, hC]
    exact iv_toInt k hk
  · show BitVec.toInt ((upto while0Ops0_6 X 3 (Proc.devRef .tc main_while0b_call7_c) : S_.Idx → BitVec 32) (Shape.Idx.first h_S_)) = _
    after_reads_simp
    rfl
  · show BitVec.toInt ((upto while0Ops0_6 X 3 (Proc.devRef .tc main_while0b_call7_c_0) : S_.Idx → BitVec 32) (Shape.Idx.first h_S_)) = _
    after_reads_simp
    rfl
  · rw [← hR q]
    refine congrArg₂ (fun u v : EReal => if r.val = k then u else v) ?_ rfl
    show broadcastInDim S1x4x4 ![1, 2] bcast_S4x4_S1x4x4_1_2 (X (Proc.devRef .tc main_while0b_v150) : S4x4.Idx → EReal) (ix3 0 p q) = _
    pointwise

theorem carried_eq : after while0Ops0_7 X (Proc.devRef .tc main_v77_3) = X (Proc.devRef .tc main_while0b_v148)
    ∧ after while0Ops0_7 X (Proc.devRef .tc main_v77_4) = X (Proc.devRef .tc main_while0b_v151) := by
  constructor
  · after_reads_simp
    rfl
  · after_reads_simp
    rfl

end Cert.Proof

end
-- ==== Proof.RefLoop.lean ====
/- The reference's loop: what its buffers hold after each trip, and so after all of them. -/
module

public import proofs.«01_k».proof.Proof.RefStep

@[expose] public section

noncomputable section

namespace Cert.Proof

open Idealize.ShloMosaic Idealize.ShloMosaic.TcCoe Idealize.ShloMosaic.StableHlo Cert.ReferenceIdeal Cert.ReferenceIdeal.Gen Cert.ReferenceIdeal.Value

/-- The buffers the loop carries hold in `Y` what they held in `X`. -/
structure Held (X Y : Valuation τ sig (Elt Ideal)) : Prop where
  boxes : Y (Proc.devRef .tc main_v77_0) = X (Proc.devRef .tc main_v77_0)
  areas : Y (Proc.devRef .tc main_v77_1) = X (Proc.devRef .tc main_v77_1)
  count : Y (Proc.devRef .tc main_v77_2) = X (Proc.devRef .tc main_v77_2)
  gone : Y (Proc.devRef .tc main_v77_3) = X (Proc.devRef .tc main_v77_3)
  rows : Y (Proc.devRef .tc main_v77_4) = X (Proc.devRef .tc main_v77_4)

theorem Held.trans {X Y Z : Valuation τ sig (Elt Ideal)} (h : Held X Y) (h' : Held Y Z) : Held X Z :=
  ⟨h'.boxes.trans h.boxes, h'.areas.trans h.areas, h'.count.trans h.count, h'.gone.trans h.gone, h'.rows.trans h.rows⟩

variable (X : Valuation τ sig (Elt Ideal))

/-- Operations that write none of the carried buffers leave them. -/
theorem held_of {ops : List (HloOp τ sig (Elt Ideal))} {W : List (Ref sig .tc)}
    (h : ops.Forall fun op => op.writes ⊆ (W.map (Proc.devRef (τ := τ) .tc)).toFinset)
    (hW : main_v77_0 ∉ W ∧ main_v77_1 ∉ W ∧ main_v77_2 ∉ W ∧ main_v77_3 ∉ W ∧ main_v77_4 ∉ W) : Held X (after ops X) :=
  ⟨after_of_writes_sub ops X h hW.1, after_of_writes_sub ops X h hW.2.1, after_of_writes_sub ops X h hW.2.2.1,
    after_of_writes_sub ops X h hW.2.2.2.1, after_of_writes_sub ops X h hW.2.2.2.2⟩

theorem held_cond : Held X (after condOps X) := held_of X condOps_writes (by decide +kernel)
theorem held_0 : Held X (after while0Ops0 X) := held_of X while0Ops0_writes (by decide +kernel)
theorem held_1 : Held X (after while0Ops0_1 X) := held_of X while0Ops0_1_writes (by decide +kernel)
theorem held_2 : Held X (after while0Ops0_2 X) := held_of X while0Ops0_2_writes (by decide +kernel)
theorem held_3 : Held X (after while0Ops0_3 X) := held_of X while0Ops0_3_writes (by decide +kernel)
theorem held_4 : Held X (after while0Ops0_4 X) := held_of X while0Ops0_4_writes (by decide +kernel)
theorem held_5 : Held X (after while0Ops0_5 X) := held_of X while0Ops0_5_writes (by decide +kernel)
theorem held_6 : Held X (after while0Ops0_6 X) := held_of X while0Ops0_6_writes (by decide +kernel)

/-- What the carried buffers hold before trip `k`: the boxes and their areas, which boxes are gone, the rows written so far. -/
structure Before (b : Fin 4 → Fin 4 → Fin 6000 → EReal) (k : ℕ) (X : Valuation τ sig (Elt Ideal)) : Prop where
  boxes : ∀ p q i, (X (Proc.devRef .tc main_v77_0) : S4x6000x4.Idx → EReal) (ix3 p i q) = b p q i
  areas : ∀ p i, (X (Proc.devRef .tc main_v77_1) : S4x6000.Idx → EReal) (ix2 p i) = area (b p) i
  gone : ∀ p i, (X (Proc.devRef .tc main_v77_3) : S4x6000.Idx → BitVec 1) (ix2 p i) = BitVec.ofBool (!avail (b p) k i)
  rows : ∀ r p q, (X (Proc.devRef .tc main_v77_4) : S1000x4x4.Idx → EReal) (ix3 r p q)
    = if r.val < k then chosen (b p) (avail (b p) r.val) q else (0 : EReal)

theorem before_next (b : Fin 4 → Fin 4 → Fin 6000 → EReal) (k : ℕ) (hk : k < 1000) (h : Before b k X)
    (hC : (X (Proc.devRef .tc main_v77_2) : S_.Idx → BitVec 32) = fun _ => Scf.iv 0#32 1#32 k) :
    Before b (k + 1) (afterL bodyI (after condOps X)) := by
  have hc := held_cond X
  simp only [afterL_cons, afterL_nil]
  obtain ⟨Y, eY⟩ : ∃ Y, Y = after condOps X := ⟨_, rfl⟩
  rw [← eY] at hc ⊢
  obtain ⟨Y0, e0⟩ : ∃ Z, Z = after while0Ops0 Y := ⟨_, rfl⟩
  have h0 : Held X Y0 := e0 ▸ hc.trans (held_0 Y)
  have hF : ∀ p i, (Y0 (Proc.devRef .tc main_while0b_v79) : S4x6000.Idx → BitVec 1) (ix2 p i) = BitVec.ofBool (avail (b p) k i) :=
    fun p i => e0 ▸ flags_eq Y p _ (fun j => (congrFun hc.gone _).trans (h.gone p j)) i
  rw [← e0]
  obtain ⟨Y1, e1⟩ : ∃ Z, Z = after while0Ops0_1 Y0 := ⟨_, rfl⟩
  have h1 : Held X Y1 := e1 ▸ h0.trans (held_1 Y0)
  have hI : ∀ p, (Y1 (Proc.devRef .tc main_while0b_v80) : S4.Idx → BitVec 32) (ix1 p) = BitVec.ofNat 32 (first (avail (b p) k)).val :=
    fun p => e1 ▸ index_eq Y0 p _ (hF p)
  have hF1 : ∀ p i, (Y1 (Proc.devRef .tc main_while0b_v79) : S4x6000.Idx → BitVec 1) (ix2 p i) = BitVec.ofBool (avail (b p) k i) :=
    fun p i => e1 ▸ (congrFun (after_of_writes_sub while0Ops0_1 Y0 while0Ops0_1_writes (by decide +kernel)) _).trans (hF p i)
  rw [← e1]
  obtain ⟨Y2, e2⟩ : ∃ Z, Z = after while0Ops0_2 Y1 := ⟨_, rfl⟩
  have h2 : Held X Y2 := e2 ▸ h1.trans (held_2 Y1)
  have hV : ∀ p, (Y2 (Proc.devRef .tc main_while0b_v81) : S4.Idx → BitVec 1) (ix1 p) = BitVec.ofBool (live (avail (b p) k)) :=
    fun p => e2 ▸ valid_eq Y1 p _ (hF1 p) (hI p)
  have hI2 : ∀ p, (Y2 (Proc.devRef .tc main_while0b_v80) : S4.Idx → BitVec 32) (ix1 p) = BitVec.ofNat 32 (first (avail (b p) k)).val :=
    fun p => e2 ▸ (congrFun (after_of_writes_sub while0Ops0_2 Y1 while0Ops0_2_writes (by decide +kernel)) _).trans (hI p)
  rw [← e2]
  obtain ⟨Y3, e3⟩ : ∃ Z, Z = after while0Ops0_3 Y2 := ⟨_, rfl⟩
  have h3 : Held X Y3 := e3 ▸ h2.trans (held_3 Y2)
  have hP : ∀ p q, (Y3 (Proc.devRef .tc main_while0b_v82) : S4x4.Idx → EReal) (ix2 p q) = b p q (first (avail (b p) k)) :=
    fun p q => e3 ▸ picked_eq Y2 p _ _ (fun q i => (congrFun h2.boxes _).trans (h.boxes p q i)) (hI2 p) q
  have hI3 : ∀ p, (Y3 (Proc.devRef .tc main_while0b_v80) : S4.Idx → BitVec 32) (ix1 p) = BitVec.ofNat 32 (first (avail (b p) k)).val :=
    fun p => e3 ▸ (congrFun (after_of_writes_sub while0Ops0_3 Y2 while0Ops0_3_writes (by decide +kernel)) _).trans (hI2 p)
  have hV3 : ∀ p, (Y3 (Proc.devRef .tc main_while0b_v81) : S4.Idx → BitVec 1) (ix1 p) = BitVec.ofBool (live (avail (b p) k)) :=
    fun p => e3 ▸ (congrFun (after_of_writes_sub while0Ops0_3 Y2 while0Ops0_3_writes (by decide +kernel)) _).trans (hV p)
  rw [← e3]
  obtain ⟨Y4, e4⟩ : ∃ Z, Z = after while0Ops0_4 Y3 := ⟨_, rfl⟩
  have h4 : Held X Y4 := e4 ▸ h3.trans (held_4 Y3)
  have hG : ∀ p i, (Y4 (Proc.devRef .tc main_while0b_v148) : S4x6000.Idx → BitVec 1) (ix2 p i) = BitVec.ofBool (!avail (b p) (k + 1) i) :=
    fun p i => e4 ▸ suppressed_eq Y3 p _ _ (fun q i => (congrFun h3.boxes _).trans (h.boxes p q i))
      (fun i => (congrFun h3.areas _).trans (h.areas p i)) (fun i => (congrFun h3.gone _).trans (h.gone p i)) (hI3 p) (hV3 p) (hP p) i
  have hZ : ∀ q, (Y4 (Proc.devRef .tc main_while0b_v149) : S4.Idx → EReal) (ix1 q) = (0 : EReal) := fun q => e4 ▸ zeros_eq Y3 q
  have hV4 : ∀ p, (Y4 (Proc.devRef .tc main_while0b_v81) : S4.Idx → BitVec 1) (ix1 p) = BitVec.ofBool (live (avail (b p) k)) :=
    fun p => e4 ▸ (congrFun (after_of_writes_sub while0Ops0_4 Y3 while0Ops0_4_writes (by decide +kernel)) _).trans (hV3 p)
  have hP4 : ∀ p q, (Y4 (Proc.devRef .tc main_while0b_v82) : S4x4.Idx → EReal) (ix2 p q) = b p q (first (avail (b p) k)) :=
    fun p q => e4 ▸ (congrFun (after_of_writes_sub while0Ops0_4 Y3 while0Ops0_4_writes (by decide +kernel)) _).trans (hP p q)
  rw [← e4]
  obtain ⟨Y5, e5⟩ : ∃ Z, Z = after while0Ops0_5 Y4 := ⟨_, rfl⟩
  have h5 : Held X Y5 := e5 ▸ h4.trans (held_5 Y4)
  have hR : ∀ p q, (Y5 (Proc.devRef .tc main_while0b_v150) : S4x4.Idx → EReal) (ix2 p q) = chosen (b p) (avail (b p) k) q :=
    fun p q => e5 ▸ row_eq Y4 p _ _ (hV4 p) (hP4 p) hZ q
  have hG5 : ∀ p i, (Y5 (Proc.devRef .tc main_while0b_v148) : S4x6000.Idx → BitVec 1) (ix2 p i) = BitVec.ofBool (!avail (b p) (k + 1) i) :=
    fun p i => e5 ▸ (congrFun (after_of_writes_sub while0Ops0_5 Y4 while0Ops0_5_writes (by decide +kernel)) _).trans (hG p i)
  rw [← e5]
  obtain ⟨Y6, e6⟩ : ∃ Z, Z = after while0Ops0_6 Y5 := ⟨_, rfl⟩
  have h6 : Held X Y6 := e6 ▸ h5.trans (held_6 Y5)
  have hO : ∀ r p q, (Y6 (Proc.devRef .tc main_while0b_v151) : S1000x4x4.Idx → EReal) (ix3 r p q)
      = if r.val = k then chosen (b p) (avail (b p) k) q else (Y5 (Proc.devRef .tc main_v77_4) : S1000x4x4.Idx → EReal) (ix3 r p q) :=
    fun r p q => e6 ▸ placed_eq Y5 p k hk _ (h5.count.trans hC) (hR p) r q
  have hG6 : ∀ p i, (Y6 (Proc.devRef .tc main_while0b_v148) : S4x6000.Idx → BitVec 1) (ix2 p i) = BitVec.ofBool (!avail (b p) (k + 1) i) :=
    fun p i => e6 ▸ (congrFun (after_of_writes_sub while0Ops0_6 Y5 while0Ops0_6_writes (by decide +kernel)) _).trans (hG5 p i)
  rw [← e6]
  refine ⟨fun p q i => ?_, fun p i => ?_, fun p i => ?_, fun r p q => ?_⟩
  · rw [after_of_writes_sub while0Ops0_7 Y6 while0Ops0_7_writes (by decide +kernel), h6.boxes, h.boxes]
  · rw [after_of_writes_sub while0Ops0_7 Y6 while0Ops0_7_writes (by decide +kernel), h6.areas, h.areas]
  · rw [(carried_eq Y6).1, hG6]
  · rw [(carried_eq Y6).2, hO, h5.rows, h.rows]
    by_cases hr : r.val = k
    · rw [if_pos hr, if_pos (by omega), hr]
    · rw [if_neg hr]
      by_cases hr' : r.val < k
      · rw [if_pos hr', if_pos (by omega)]
      · rw [if_neg hr', if_neg (by omega)]

variable (m : (ℓ : Loc nD τ sig) → Buf (Elt Ideal) ℓ) (c : Dev nD) (b : Fin 4 → Fin 4 → Fin 6000 → EReal)

theorem before_trip (h : Before b 0 (entryContents preI m c)) (k : ℕ) (hk : k ≤ 1000) : Before b k (atK m k c) := by
  induction k with
  | zero => exact h
  | succ k ih => exact before_next _ b k (by omega) (ih (by omega)) (atK_ctr m c k)

theorem final_eq (h : Before b 0 (entryContents preI m c)) (p : Fin 4) (r : Fin 1000) (q : Fin 4) :
    (finalContents condOps preI bodyI postI 1000 m c (Proc.devRef .tc main_v78) : S4x1000x4.Idx → EReal) (ix3 p r q)
      = chosen (b p) (avail (b p) r.val) q := by
  have e : (after hostOps0_7 (after condOps (atK m 1000 c)) (Proc.devRef .tc main_v78) : S4x1000x4.Idx → EReal) (ix3 p r q)
      = (after condOps (atK m 1000 c) (Proc.devRef .tc main_v77_4) : S1000x4x4.Idx → EReal) (ix3 r p q) := by
    generalize after condOps (atK m 1000 c) = Y
    after_reads_at
  refine e.trans ?_
  rw [(held_cond (atK m 1000 c)).rows, (before_trip m c b h 1000 le_rfl).rows, if_pos r.isLt]

end Cert.Proof

end
-- ==== Proof.RefEntry.lean ====
/- What the reference's buffers hold at its loop's entry: the decoded boxes of the selected rows, in their sorted order. -/
module

public import proofs.«01_k».proof.Proof.RefLoop
public import proofs.«01_k».proof.Proof.TopRead

@[expose] public section

noncomputable section

namespace Cert.Proof

open Idealize.ShloMosaic Idealize.ShloMosaic.TcCoe Idealize.ShloMosaic.StableHlo Cert.ReferenceIdeal Cert.ReferenceIdeal.Gen Cert.ReferenceIdeal.Value

variable (X : Valuation τ sig (Elt Ideal)) (p : Fin 4) (i : Fin 6000)

theorem refIndex : (after hostOps0 X (Proc.devRef .tc main_v2) : S4x6000x1.Idx → BitVec 32) (ix3 p i 0)
    = BitVec.ofNat 32 (rank fits (scores (X (Proc.devRef .tc main_arg0))) p i).val := by
  after_reads_at
  exact topK_word fits (scores (X (Proc.devRef .tc main_arg0))) sliceFits_S4x261888_S4x6000 p i

theorem refValue : (after hostOps0 X (Proc.devRef .tc main_values) : S4x6000.Idx → EReal) (ix2 p i)
    = scores (X (Proc.devRef .tc main_arg0)) (ix2 p (rank fits (scores (X (Proc.devRef .tc main_arg0))) p i)) := by
  after_reads_at
  exact topK_value fits (scores (X (Proc.devRef .tc main_arg0))) sliceFits_S4x261888_S4x6000 p i

theorem refTake (w : Fin 261888) (hw : (X (Proc.devRef .tc main_v2) : S4x6000x1.Idx → BitVec 32) (ix3 p i 0) = BitVec.ofNat 32 w.val) (q : Fin 4) :
    (after hostOps0_1 X (Proc.devRef .tc main_v3) : S4x6000x4.Idx → EReal) (ix3 p i q)
      = (X (Proc.devRef .tc main_arg2) : S4x261888x4.Idx → EReal) (ix3 p w q) := by
  after_reads_at
  rw [gather_taken _ _ p i q w, Finset.univ_unique, Finset.fold_singleton]
  · show Scalar.select (IntOp.andi (IntOp.andi (IntOp.cmpi .sge (Scalar.select (IntOp.cmpi .slt (X (Proc.devRef .tc main_v2) (ix3 p i 0)) 0#32)
      (IntOp.addi (X (Proc.devRef .tc main_v2) (ix3 p i 0)) 261888#32) (X (Proc.devRef .tc main_v2) (ix3 p i 0))) 0#32)
      (IntOp.cmpi .sle (Scalar.select (IntOp.cmpi .slt (X (Proc.devRef .tc main_v2) (ix3 p i 0)) 0#32)
      (IntOp.addi (X (Proc.devRef .tc main_v2) (ix3 p i 0)) 261888#32) (X (Proc.devRef .tc main_v2) (ix3 p i 0))) 261887#32)) 1#1) _ _ = _
    rw [wrap_word (by decide) w _ _ hw, hw, inside_word (by decide) w _ (by decide)]
    rfl
  · refine Eq.trans (congrArg BitVec.toInt ?_) (word_int (by decide) w)
    refine Eq.trans ?_ ((wrap_word (by decide) w _ 261888#32 hw).trans hw)
    pointwise

theorem clipped_eq (h0 : (X (Proc.devRef .tc main_cst_3) : S_.Idx → EReal) ix0 = (0 : EReal)) (h1 : (X (Proc.devRef .tc main_cst_4) : S_.Idx → EReal) ix0 = (1 : EReal)) (q : Fin 4) :
    (after hostOps0_3 X (Proc.devRef .tc main_v53) : S4x6000x4.Idx → EReal) (ix3 p i q)
    = clip ((X (Proc.devRef .tc main_v52) : S4x6000x4.Idx → EReal) (ix3 p i q)) := by
  after_reads_at
  simp only [id]
  rw [h0, h1]
  rfl

theorem negated_eq (v : EReal) (h : (X (Proc.devRef .tc main_values) : S4x6000.Idx → EReal) (ix2 p i) = v) :
    (after hostOps0_4 X (Proc.devRef .tc main_v54) : S4x6000.Idx → EReal) (ix2 p i) = -v := by
  after_reads_at
  rw [h]

theorem comparator_eq (u v : EReal) (x y : BitVec 32) : (comparator_f32_i32_d1 (F := Ideal) (u, x) (v, y) == 1#1) = decide (u < v) := by
  unfold comparator_f32_i32_d1
  dsimp only
  have hs : ∀ w : Ideal .f32, Scalar.select (FloatOps.cmpf .une w w) (FloatOps.ofBits .f32 0x7FC00000#32)
      (Scalar.select (FloatOps.cmpf .oeq w (FloatOps.ofBits .f32 0x00000000#32)) (FloatOps.ofBits .f32 0x00000000#32) w) = w := by
    intro w
    have h1 : FloatOps.cmpf .une w w = 0#1 := by
      show BitVec.ofBool (decide (w ≠ w)) = BitVec.ofBool false
      refine congrArg _ (decide_eq_false fun h => h rfl)
    rw [h1]
    show Scalar.select (BitVec.ofBool (decide (w = Ideal.ofBits .f32 0x00000000#32))) (Ideal.ofBits .f32 0x00000000#32) w = w
    by_cases h : w = Ideal.ofBits .f32 0x00000000#32
    · rw [decide_eq_true h]
      exact h.symm
    · rw [decide_eq_false h]
      rfl
  refine (congrArg₂ (fun s t : Ideal .f32 => FloatOps.cmpfTotal .lt s t == 1#1) (hs u) (hs v)).trans ?_
  exact ofBool_beq _

/-- Values already in descending order are left in place by the sort of their negatives. -/
theorem sorted_eq (v : Fin 6000 → EReal) (hv : ∀ i j, i ≤ j → v j ≤ v i)
    (h : ∀ i, (X (Proc.devRef .tc main_v54) : S4x6000.Idx → EReal) (ix2 p i) = -v i) :
    (after hostOps0_5 X (Proc.devRef .tc main_v55) : S4x6000.Idx → BitVec 32) (ix2 p i) = BitVec.ofNat 32 i.val := by
  after_reads_simp
  refine (sort2_snd (a := 4) (n := 6000) _ _ _ p i (larger v) fun k k' => ?_).trans ?_
  · refine (comparator_eq _ _ _ _).trans ?_
    unfold larger
    rw [decide_eq_decide]
    refine Iff.trans (iff_of_eq (congrArg₂ (fun s t : EReal => s < t) (h k) (h k'))) EReal.neg_lt_neg_iff
  · rw [sortedFrom_of_sorted v hv]
    show broadcastInDim S4x6000 ![1] bcast_S6000_S4x6000_1 (iotaInDim S6000 32 0) (ix2 p i) = _
    pointwise

theorem start_sorted (x : S4x6000.Idx → BitVec 32) (h : x (ix2 p i) = BitVec.ofNat 32 i.val) :
    (broadcastInDim S4x6000x1 ![0, 1] bcast_S4x6000_S4x6000x1_0_1 (select (cmpi .slt x (broadcastInDim S4x6000 ![] bcast_S_S4x6000 (constantI S_ 32 0#32)))
      (addi x (broadcastInDim S4x6000 ![] bcast_S_S4x6000 (constantI S_ 32 6000#32))) x) (ix3 p i 0)).toInt = (i.val : ℤ) := by
  refine Eq.trans (congrArg BitVec.toInt ?_) (word_int (by decide) i)
  refine Eq.trans ?_ ((wrap_word (by decide) i _ 6000#32 h).trans h)
  pointwise

theorem boxes_eq (hI : (X (Proc.devRef .tc main_v55) : S4x6000.Idx → BitVec 32) (ix2 p i) = BitVec.ofNat 32 i.val) (q : Fin 4) :
    (after hostOps0_6 X (Proc.devRef .tc main_v77_0) : S4x6000x4.Idx → EReal) (ix3 p i q)
      = (X (Proc.devRef .tc main_v53) : S4x6000x4.Idx → EReal) (ix3 p i q) := by
  after_reads_at
  exact gather_sorted _ _ p i q i (start_sorted p i _ hI)

theorem area_eq (b : Fin 4 → Fin 6000 → EReal) (hB : ∀ q, (X (Proc.devRef .tc main_v53) : S4x6000x4.Idx → EReal) (ix3 p i q) = b q i)
    (hI : (X (Proc.devRef .tc main_v55) : S4x6000.Idx → BitVec 32) (ix2 p i) = BitVec.ofNat 32 i.val) :
    (after hostOps0_6 X (Proc.devRef .tc main_v77_1) : S4x6000.Idx → EReal) (ix2 p i) = area b i := by
  after_reads_simp
  simp only [id]
  pointwise
  rw [gather_sorted _ _ p i 2 i (start_sorted p i _ hI), gather_sorted _ _ p i 0 i (start_sorted p i _ hI),
    gather_sorted _ _ p i 3 i (start_sorted p i _ hI), gather_sorted _ _ p i 1 i (start_sorted p i _ hI), hB, hB, hB, hB]
  rfl

theorem noneGone_eq : (after hostOps0_6 X (Proc.devRef .tc main_v77_3) : S4x6000.Idx → BitVec 1) (ix2 p i) = 0#1 := by
  after_reads_simp
  simp only [id]
  pointwise

theorem noRows_eq (r : Fin 1000) (q : Fin 4) : (after hostOps0_6 X (Proc.devRef .tc main_v77_4) : S1000x4x4.Idx → EReal) (ix3 r p q) = (0 : EReal) := by
  after_reads_simp
  simp only [id]
  pointwise

theorem bounds_eq : (after hostOps0_2 X (Proc.devRef .tc main_cst_3) : S_.Idx → EReal) ix0 = (0 : EReal)
    ∧ (after hostOps0_2 X (Proc.devRef .tc main_cst_4) : S_.Idx → EReal) ix0 = (1 : EReal) := by
  constructor
  · after_reads_at
  · after_reads_at

variable (g : Fin 4 → EReal) (hg : ∀ r, (X (Proc.devRef .tc main_v3) : S4x6000x4.Idx → EReal) (ix3 p i r) = g r)

include hg in
theorem decoded_0 : (after hostOps0_2 X (Proc.devRef .tc main_v52) : S4x6000x4.Idx → EReal) (ix3 p i 0) = lower g 0 2 := by
  after_reads_at
  show (upto hostOps0_2 X 48 (Proc.devRef .tc main_v42) : S4x6000.Idx → EReal) (ix2 p i) = _
  after_reads_at
  simp only [hg]
  rfl

include hg in
theorem decoded_1 : (after hostOps0_2 X (Proc.devRef .tc main_v52) : S4x6000x4.Idx → EReal) (ix3 p i 1) = lower g 1 3 := by
  after_reads_at
  show (upto hostOps0_2 X 49 (Proc.devRef .tc main_v45) : S4x6000.Idx → EReal) (ix2 p i) = _
  after_reads_at
  simp only [hg]
  rfl

include hg in
theorem decoded_2 : (after hostOps0_2 X (Proc.devRef .tc main_v52) : S4x6000x4.Idx → EReal) (ix3 p i 2) = lower g 0 2 + extent g 0 2 := by
  after_reads_at
  show (upto hostOps0_2 X 50 (Proc.devRef .tc main_v46) : S4x6000.Idx → EReal) (ix2 p i) = _
  after_reads_at
  simp only [hg]
  rfl

include hg in
theorem decoded_3 : (after hostOps0_2 X (Proc.devRef .tc main_v52) : S4x6000x4.Idx → EReal) (ix3 p i 3) = lower g 1 3 + extent g 1 3 := by
  after_reads_at
  show (upto hostOps0_2 X 51 (Proc.devRef .tc main_v47) : S4x6000.Idx → EReal) (ix2 p i) = _
  after_reads_at
  simp only [hg]
  rfl

end Cert.Proof

end
-- ==== Proof.RefValue.lean ====
/- What the reference computes: the selection among the boxes decoded from the rows of the highest scores. -/
module

public import proofs.«01_k».proof.Proof.RefEntry

@[expose] public section

noncomputable section

namespace Cert.Proof

open Idealize.ShloMosaic Idealize.ShloMosaic.TcCoe Idealize.ShloMosaic.StableHlo Cert.ReferenceIdeal Cert.ReferenceIdeal.Gen Cert.ReferenceIdeal.Value

/-- The stretches before the loop leave what the first trip needs. -/
theorem before_entry (X : Valuation τ sig (Elt Ideal)) (d : S4x261888x2.Idx → EReal) (v : S4x261888x4.Idx → EReal)
    (hd : X (Proc.devRef .tc main_arg0) = d) (hv : X (Proc.devRef .tc main_arg2) = v) :
    Before (boxesOf (taken d v)) 0 (afterL preI X) := by
  subst hd hv
  simp only [afterL_cons, afterL_nil]
  obtain ⟨Y0, e0⟩ : ∃ Z, Z = after hostOps0 X := ⟨_, rfl⟩
  have hI0 : ∀ p i, (Y0 (Proc.devRef .tc main_v2) : S4x6000x1.Idx → BitVec 32) (ix3 p i 0)
      = BitVec.ofNat 32 (rank fits (scores (X (Proc.devRef .tc main_arg0))) p i).val := fun p i => e0 ▸ refIndex X p i
  have hV0 : ∀ p i, (Y0 (Proc.devRef .tc main_values) : S4x6000.Idx → EReal) (ix2 p i)
      = scores (X (Proc.devRef .tc main_arg0)) (ix2 p (rank fits (scores (X (Proc.devRef .tc main_arg0))) p i)) := fun p i => e0 ▸ refValue X p i
  have hA0 : Y0 (Proc.devRef .tc main_arg2) = X (Proc.devRef .tc main_arg2) := e0 ▸ after_of_writes_sub hostOps0 X hostOps0_writes (by decide +kernel)
  rw [← e0]
  obtain ⟨Y1, e1⟩ : ∃ Z, Z = after hostOps0_1 Y0 := ⟨_, rfl⟩
  have hG1 : ∀ p i r, (Y1 (Proc.devRef .tc main_v3) : S4x6000x4.Idx → EReal) (ix3 p i r)
      = taken (X (Proc.devRef .tc main_arg0)) (X (Proc.devRef .tc main_arg2)) (ix3 p i r) :=
    fun p i r => e1 ▸ (refTake Y0 p i _ (hI0 p i) r).trans (congrFun hA0 _)
  have hV1 : Y1 (Proc.devRef .tc main_values) = Y0 (Proc.devRef .tc main_values) := e1 ▸ after_of_writes_sub hostOps0_1 Y0 hostOps0_1_writes (by decide +kernel)
  rw [← e1]
  obtain ⟨Y2, e2⟩ : ∃ Z, Z = after hostOps0_2 Y1 := ⟨_, rfl⟩
  have hD0 : ∀ p i, (Y2 (Proc.devRef .tc main_v52) : S4x6000x4.Idx → EReal) (ix3 p i 0) = _ := fun p i => e2 ▸ decoded_0 Y1 p i _ (hG1 p i)
  have hD1 : ∀ p i, (Y2 (Proc.devRef .tc main_v52) : S4x6000x4.Idx → EReal) (ix3 p i 1) = _ := fun p i => e2 ▸ decoded_1 Y1 p i _ (hG1 p i)
  have hD2 : ∀ p i, (Y2 (Proc.devRef .tc main_v52) : S4x6000x4.Idx → EReal) (ix3 p i 2) = _ := fun p i => e2 ▸ decoded_2 Y1 p i _ (hG1 p i)
  have hD3 : ∀ p i, (Y2 (Proc.devRef .tc main_v52) : S4x6000x4.Idx → EReal) (ix3 p i 3) = _ := fun p i => e2 ▸ decoded_3 Y1 p i _ (hG1 p i)
  have hc2 := bounds_eq Y1
  have hV2 : Y2 (Proc.devRef .tc main_values) = Y1 (Proc.devRef .tc main_values) := e2 ▸ after_of_writes_sub hostOps0_2 Y1 hostOps0_2_writes (by decide +kernel)
  rw [← e2] at hc2 ⊢
  obtain ⟨Y3, e3⟩ : ∃ Z, Z = after hostOps0_3 Y2 := ⟨_, rfl⟩
  have hB3 : ∀ p i q, (Y3 (Proc.devRef .tc main_v53) : S4x6000x4.Idx → EReal) (ix3 p i q)
      = boxesOf (taken (X (Proc.devRef .tc main_arg0)) (X (Proc.devRef .tc main_arg2))) p q i := by
    intro p i q
    rw [e3]
    refine (clipped_eq Y2 p i hc2.1 hc2.2 q).trans ?_
    match q with
    | 0 => exact congrArg clip (hD0 p i)
    | 1 => exact congrArg clip (hD1 p i)
    | 2 => exact congrArg clip (hD2 p i)
    | 3 => exact congrArg clip (hD3 p i)
  have hV3 : Y3 (Proc.devRef .tc main_values) = Y2 (Proc.devRef .tc main_values) := e3 ▸ after_of_writes_sub hostOps0_3 Y2 hostOps0_3_writes (by decide +kernel)
  rw [← e3]
  obtain ⟨Y4, e4⟩ : ∃ Z, Z = after hostOps0_4 Y3 := ⟨_, rfl⟩
  have hN4 : ∀ p i, (Y4 (Proc.devRef .tc main_v54) : S4x6000.Idx → EReal) (ix2 p i)
      = -(scores (X (Proc.devRef .tc main_arg0)) (ix2 p (rank fits (scores (X (Proc.devRef .tc main_arg0))) p i))) :=
    fun p i => e4 ▸ negated_eq Y3 p i _ ((congrFun (hV3.trans (hV2.trans hV1)) _).trans (hV0 p i))
  have hB4 : Y4 (Proc.devRef .tc main_v53) = Y3 (Proc.devRef .tc main_v53) := e4 ▸ after_of_writes_sub hostOps0_4 Y3 hostOps0_4_writes (by decide +kernel)
  rw [← e4]
  obtain ⟨Y5, e5⟩ : ∃ Z, Z = after hostOps0_5 Y4 := ⟨_, rfl⟩
  have hI5 : ∀ p i, (Y5 (Proc.devRef .tc main_v55) : S4x6000.Idx → BitVec 32) (ix2 p i) = BitVec.ofNat 32 i.val :=
    fun p i => e5 ▸ sorted_eq Y4 p i (fun i => scores (X (Proc.devRef .tc main_arg0)) (ix2 p (rank fits (scores (X (Proc.devRef .tc main_arg0))) p i)))
      (fun i j hij => rank_antitone fits (scores (X (Proc.devRef .tc main_arg0))) p i j hij) (hN4 p)
  have hB5 : ∀ p i q, (Y5 (Proc.devRef .tc main_v53) : S4x6000x4.Idx → EReal) (ix3 p i q)
      = boxesOf (taken (X (Proc.devRef .tc main_arg0)) (X (Proc.devRef .tc main_arg2))) p q i :=
    fun p i q => e5 ▸ (congrFun ((after_of_writes_sub hostOps0_5 Y4 hostOps0_5_writes (by decide +kernel)).trans hB4) _).trans (hB3 p i q)
  rw [← e5]
  refine ⟨fun p q i => ?_, fun p i => ?_, fun p i => ?_, fun r p q => ?_⟩
  · exact (boxes_eq Y5 p i (hI5 p i) q).trans (hB5 p i q)
  · exact area_eq Y5 p i _ (hB5 p i) (hI5 p i)
  · exact noneGone_eq Y5 p i
  · exact (noRows_eq Y5 p r q).trans (if_neg (Nat.not_lt_zero _)).symm

variable (m : (ℓ : Loc nD τ sig) → Buf (Elt Ideal) ℓ) (c : Dev nD)

/-- The reference's result. -/
theorem ref_eq : finalContents condOps preI bodyI postI 1000 m c (Proc.devRef .tc main_v78)
    = selected (taken (m ((c.tc : Thread nD τ).loc main_arg0)) (m ((c.tc : Thread nD τ).loc main_arg2))) := by
  refine funext fun y => ?_
  obtain ⟨p, r, q, rfl⟩ : ∃ p r q, y = (ix3 p r q : S4x1000x4.Idx) := ⟨y 0, y 1, y 2, by funext d; fin_cases d <;> rfl⟩
  exact final_eq m c _ (before_entry _ _ _ rfl rfl) p r q

theorem pre_kept (X : Valuation τ sig (Elt Ideal)) (b : Ref sig .tc)
    (h : b ∉ hostOps0_W ∧ b ∉ hostOps0_1_W ∧ b ∉ hostOps0_2_W ∧ b ∉ hostOps0_3_W ∧ b ∉ hostOps0_4_W ∧ b ∉ hostOps0_5_W ∧ b ∉ hostOps0_6_W) :
    afterL preI X (Proc.devRef .tc b) = X (Proc.devRef .tc b) := by
  simp only [afterL_cons, afterL_nil]
  rw [after_of_writes_sub hostOps0_6 _ hostOps0_6_writes h.2.2.2.2.2.2, after_of_writes_sub hostOps0_5 _ hostOps0_5_writes h.2.2.2.2.2.1, after_of_writes_sub hostOps0_4 _ hostOps0_4_writes h.2.2.2.2.1, after_of_writes_sub hostOps0_3 _ hostOps0_3_writes h.2.2.2.1, after_of_writes_sub hostOps0_2 _ hostOps0_2_writes h.2.2.1, after_of_writes_sub hostOps0_1 _ hostOps0_1_writes h.2.1, after_of_writes_sub hostOps0 _ hostOps0_writes h.1]

theorem trip_kept (X : Valuation τ sig (Elt Ideal)) (b : Ref sig .tc) (hc : b ∉ condOps_W)
    (h : b ∉ while0Ops0_W ∧ b ∉ while0Ops0_1_W ∧ b ∉ while0Ops0_2_W ∧ b ∉ while0Ops0_3_W ∧ b ∉ while0Ops0_4_W ∧ b ∉ while0Ops0_5_W ∧ b ∉ while0Ops0_6_W ∧ b ∉ while0Ops0_7_W) :
    afterL bodyI (after condOps X) (Proc.devRef .tc b) = X (Proc.devRef .tc b) := by
  simp only [afterL_cons, afterL_nil]
  rw [after_of_writes_sub while0Ops0_7 _ while0Ops0_7_writes h.2.2.2.2.2.2.2, after_of_writes_sub while0Ops0_6 _ while0Ops0_6_writes h.2.2.2.2.2.2.1, after_of_writes_sub while0Ops0_5 _ while0Ops0_5_writes h.2.2.2.2.2.1, after_of_writes_sub while0Ops0_4 _ while0Ops0_4_writes h.2.2.2.2.1, after_of_writes_sub while0Ops0_3 _ while0Ops0_3_writes h.2.2.2.1, after_of_writes_sub while0Ops0_2 _ while0Ops0_2_writes h.2.2.1, after_of_writes_sub while0Ops0_1 _ while0Ops0_1_writes h.2.1, after_of_writes_sub while0Ops0 _ while0Ops0_writes h.1,
    after_of_writes_sub condOps _ condOps_writes hc]

/-- A buffer no operation writes ends as it began. -/
theorem final_kept (b : Ref sig .tc) (hc : b ∉ condOps_W) (h : b ∉ hostOps0_W ∧ b ∉ hostOps0_1_W ∧ b ∉ hostOps0_2_W ∧ b ∉ hostOps0_3_W ∧ b ∉ hostOps0_4_W ∧ b ∉ hostOps0_5_W ∧ b ∉ hostOps0_6_W)
    (h' : b ∉ while0Ops0_W ∧ b ∉ while0Ops0_1_W ∧ b ∉ while0Ops0_2_W ∧ b ∉ while0Ops0_3_W ∧ b ∉ while0Ops0_4_W ∧ b ∉ while0Ops0_5_W ∧ b ∉ while0Ops0_6_W ∧ b ∉ while0Ops0_7_W)
    (hp : b ∉ hostOps0_7_W) :
    finalContents condOps preI bodyI postI 1000 m c (Proc.devRef .tc b) = m ((c.tc : Thread nD τ).loc b) := by
  have e : ∀ k, atK m k c (Proc.devRef .tc b) = m ((c.tc : Thread nD τ).loc b) := by
    intro k
    induction k with
    | zero => exact pre_kept _ b h
    | succ k ih => exact (trip_kept _ b hc h').trans ih
  exact (after_of_writes_sub hostOps0_7 _ hostOps0_7_writes hp).trans ((after_of_writes_sub condOps _ condOps_writes hc).trans (e 1000))

theorem kept_0 : finalContents condOps preI bodyI postI 1000 m c (Proc.devRef .tc main_arg0) = m ((c.tc : Thread nD τ).loc main_arg0) :=
  final_kept m c main_arg0 (by decide +kernel) (by decide +kernel) (by decide +kernel) (by decide +kernel)

theorem kept_1 : finalContents condOps preI bodyI postI 1000 m c (Proc.devRef .tc main_arg1) = m ((c.tc : Thread nD τ).loc main_arg1) :=
  final_kept m c main_arg1 (by decide +kernel) (by decide +kernel) (by decide +kernel) (by decide +kernel)

theorem kept_2 : finalContents condOps preI bodyI postI 1000 m c (Proc.devRef .tc main_arg2) = m ((c.tc : Thread nD τ).loc main_arg2) :=
  final_kept m c main_arg2 (by decide +kernel) (by decide +kernel) (by decide +kernel) (by decide +kernel)

end Cert.Proof

end
-- ==== Proof.lean ====
module

public import proofs.«01_k».proof.Proof.Gen.KernelIdeal.Value
public import proofs.«01_k».proof.Proof.Gen.ReferenceIdeal.Run
public import proofs.«01_k».proof.Proof.Gen.Kernel.Frame
public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.KernelValue
public import proofs.«01_k».proof.Proof.KernelHost
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel ends with the boxes selected from the anchors of the 6000 highest scores, and its arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
          = selected (taken (m ((c.tc : Thread Cert.KernelIdeal.nD Cert.KernelIdeal.τ).loc Cert.KernelIdeal.main_arg0))
              (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c => ⟨(h c).1.trans (arr_eq m c _ fun p r i => launch_anchors p i m c r), (h c).2⟩)
    (Cert.KernelIdeal.Value.run_blocks m g)

/-- The reference ends with the boxes selected from the anchors of the 6000 highest scores, and its arguments as they were. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v78)
          = selected (taken (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg2)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c Cert.ReferenceIdeal.main_v78 rfl).trans (ref_eq m c),
      (h c Cert.ReferenceIdeal.main_arg0 rfl).trans (kept_0 m c), (h c Cert.ReferenceIdeal.main_arg1 rfl).trans (kept_1 m c),
      (h c Cert.ReferenceIdeal.main_arg2 rfl).trans (kept_2 m c)⟩)
    (Cert.ReferenceIdeal.Value.run_fold m g)

theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => (θ_run _ _ _).mono (fun r h => ⟨fun c => (h c).2, sem_eq_zero_of_no_sems (by decide) r.2⟩) (reference_run m g),
  trivial,
  fun m g m' g' _ h => ⟨_, kernel_run m g, (θ_run _ _ _).mono (fun r hr c => ⟨(hr c).1.trans
    (congrArg₂ (fun a b => selected (taken a b)) (h c).1 (h c).2.2), (hr c).2⟩) (reference_run m' g')⟩⟩

end Cert.Proof

end
